-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_bound_KernelIdeal [hPre_within_bound_KernelIdeal : Cert.Pre_within_bound_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_bound_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_BoundedIdeal (m : (ℓ : Loc Cert.BoundedIdeal.nD Cert.BoundedIdeal.τ Cert.BoundedIdeal.sig) → Buf (Elt Ideal) ℓ) : Prop :=
  True

def Pre_BoundedIdeal_within_bound_BoundedIdeal [hPre_within_bound_BoundedIdeal : Cert.Pre_within_bound_BoundedIdeal.Facts] (m : (ℓ : Loc Cert.BoundedIdeal.nD Cert.BoundedIdeal.τ Cert.BoundedIdeal.sig) → Buf (Elt Ideal) ℓ) : Prop :=
  ∀ c : Dev Cert.BoundedIdeal.nD,
    (Cert.Pre_within_bound_BoundedIdeal.fn (F := Ideal) (m ((c.tc : Thread Cert.BoundedIdeal.nD Cert.BoundedIdeal.τ).loc Cert.BoundedIdeal.main_arg0)) (m ((c.tc : Thread Cert.BoundedIdeal.nD Cert.BoundedIdeal.τ).loc Cert.BoundedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_bound_KernelIdeal [hKernelIdeal : Cert.KernelIdeal.Facts] [hPre_within_bound_KernelIdeal : Cert.Pre_within_bound_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_bound_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_BoundedIdeal [hBoundedIdeal : Cert.BoundedIdeal.Facts] : Prop :=
  ∀ (m : (ℓ : Loc Cert.BoundedIdeal.nD Cert.BoundedIdeal.τ Cert.BoundedIdeal.sig) → Buf (Elt Ideal) ℓ) (g : Dev Cert.BoundedIdeal.nD → PrngReg), Pre_BoundedIdeal m →
    θ_run (Cert.BoundedIdeal.defs (F := Ideal)) (onTc (τ := Cert.BoundedIdeal.τ) (Cert.BoundedIdeal.main (F := Ideal))) ⟨m, fun _ => 0, g⟩ (fun r => (∀ c : Dev Cert.BoundedIdeal.nD,
      r.2.mem ((c.tc : Thread Cert.BoundedIdeal.nD Cert.BoundedIdeal.τ).loc Cert.BoundedIdeal.main_arg0) = m ((c.tc : Thread Cert.BoundedIdeal.nD Cert.BoundedIdeal.τ).loc Cert.BoundedIdeal.main_arg0)
      ∧ r.2.mem ((c.tc : Thread Cert.BoundedIdeal.nD Cert.BoundedIdeal.τ).loc Cert.BoundedIdeal.main_arg1) = m ((c.tc : Thread Cert.BoundedIdeal.nD Cert.BoundedIdeal.τ).loc Cert.BoundedIdeal.main_arg1))
      ∧ r.2.sem = fun _ => 0)

def quiescent_BoundedIdeal_pre_within_bound_BoundedIdeal [hBoundedIdeal : Cert.BoundedIdeal.Facts] [hPre_within_bound_BoundedIdeal : Cert.Pre_within_bound_BoundedIdeal.Facts] : Prop :=
  ∀ (m : (ℓ : Loc Cert.BoundedIdeal.nD Cert.BoundedIdeal.τ Cert.BoundedIdeal.sig) → Buf (Elt Ideal) ℓ) (g : Dev Cert.BoundedIdeal.nD → PrngReg), Pre_BoundedIdeal_within_bound_BoundedIdeal m →
    θ_run (Cert.BoundedIdeal.defs (F := Ideal)) (onTc (τ := Cert.BoundedIdeal.τ) (Cert.BoundedIdeal.main (F := Ideal))) ⟨m, fun _ => 0, g⟩ (fun r => (∀ c : Dev Cert.BoundedIdeal.nD,
      r.2.mem ((c.tc : Thread Cert.BoundedIdeal.nD Cert.BoundedIdeal.τ).loc Cert.BoundedIdeal.main_arg0) = m ((c.tc : Thread Cert.BoundedIdeal.nD Cert.BoundedIdeal.τ).loc Cert.BoundedIdeal.main_arg0)
      ∧ r.2.mem ((c.tc : Thread Cert.BoundedIdeal.nD Cert.BoundedIdeal.τ).loc Cert.BoundedIdeal.main_arg1) = m ((c.tc : Thread Cert.BoundedIdeal.nD Cert.BoundedIdeal.τ).loc Cert.BoundedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_BoundedIdeal_pre_within_bound_KernelIdeal [hKernelIdeal : Cert.KernelIdeal.Facts] [hBoundedIdeal : Cert.BoundedIdeal.Facts] [hPre_within_bound_KernelIdeal : Cert.Pre_within_bound_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.BoundedIdeal.nD Cert.BoundedIdeal.τ Cert.BoundedIdeal.sig) → Buf (Elt Ideal) ℓ) (g' : Dev Cert.BoundedIdeal.nD → PrngReg), Pre_KernelIdeal_within_bound_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.BoundedIdeal.nD).tc : Thread Cert.BoundedIdeal.nD Cert.BoundedIdeal.τ).loc Cert.BoundedIdeal.main_arg0))
      ∧ m ((c.tc : Thread Cert.KernelIdeal.nD Cert.KernelIdeal.τ).loc Cert.KernelIdeal.main_arg1) = m' (((0 : Dev Cert.BoundedIdeal.nD).tc : Thread Cert.BoundedIdeal.nD Cert.BoundedIdeal.τ).loc Cert.BoundedIdeal.main_arg1)) →
    ∃ (v0 : Buf (Elt Ideal) (((0 : Dev Cert.BoundedIdeal.nD).tc : Thread Cert.BoundedIdeal.nD Cert.BoundedIdeal.τ).loc Cert.BoundedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.BoundedIdeal.defs (F := Ideal)) (onTc (τ := Cert.BoundedIdeal.τ) (Cert.BoundedIdeal.main (F := Ideal))) ⟨m', fun _ => 0, g'⟩ (fun r =>
          r.2.mem (((0 : Dev Cert.BoundedIdeal.nD).tc : Thread Cert.BoundedIdeal.nD Cert.BoundedIdeal.τ).loc Cert.BoundedIdeal.main_v7) = v0
          ∧ r.2.mem (((0 : Dev Cert.BoundedIdeal.nD).tc : Thread Cert.BoundedIdeal.nD Cert.BoundedIdeal.τ).loc Cert.BoundedIdeal.main_arg0) = m' (((0 : Dev Cert.BoundedIdeal.nD).tc : Thread Cert.BoundedIdeal.nD Cert.BoundedIdeal.τ).loc Cert.BoundedIdeal.main_arg0)
          ∧ r.2.mem (((0 : Dev Cert.BoundedIdeal.nD).tc : Thread Cert.BoundedIdeal.nD Cert.BoundedIdeal.τ).loc Cert.BoundedIdeal.main_arg1) = m' (((0 : Dev Cert.BoundedIdeal.nD).tc : Thread Cert.BoundedIdeal.nD Cert.BoundedIdeal.τ).loc Cert.BoundedIdeal.main_arg1))

def Claim : Prop :=
  ∃ (hKernel : Cert.Kernel.Facts) (hKernelIdeal : Cert.KernelIdeal.Facts) (hReferenceIdeal : Cert.ReferenceIdeal.Facts) (hBoundedIdeal : Cert.BoundedIdeal.Facts) (hPre_within_bound_KernelIdeal : Cert.Pre_within_bound_KernelIdeal.Facts) (hPre_within_bound_BoundedIdeal : Cert.Pre_within_bound_BoundedIdeal.Facts),
    quiescent_Kernel (hKernel := hKernel)
    ∧ quiescent_KernelIdeal (hKernelIdeal := hKernelIdeal)
    ∧ quiescent_KernelIdeal_pre_within_bound_KernelIdeal (hKernelIdeal := hKernelIdeal) (hPre_within_bound_KernelIdeal := hPre_within_bound_KernelIdeal)
    ∧ quiescent_ReferenceIdeal (hReferenceIdeal := hReferenceIdeal)
    ∧ quiescent_BoundedIdeal (hBoundedIdeal := hBoundedIdeal)
    ∧ quiescent_BoundedIdeal_pre_within_bound_BoundedIdeal (hBoundedIdeal := hBoundedIdeal) (hPre_within_bound_BoundedIdeal := hPre_within_bound_BoundedIdeal)
    ∧ preserves_Kernel_KernelIdeal
    ∧ algebraic_KernelIdeal_ReferenceIdeal (hKernelIdeal := hKernelIdeal) (hReferenceIdeal := hReferenceIdeal)
    ∧ algebraic_KernelIdeal_BoundedIdeal_pre_within_bound_KernelIdeal (hKernelIdeal := hKernelIdeal) (hBoundedIdeal := hBoundedIdeal) (hPre_within_bound_KernelIdeal := hPre_within_bound_KernelIdeal)
-- ==== Pre_within_bound_BoundedIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Pre_within_bound_KernelIdeal.lean ====
abbrev S1024x8192 : Shape := ⟨2, ![1024, 8192]⟩
abbrev S8192x4096 : Shape := ⟨2, ![8192, 4096]⟩
abbrev S1024x4096 : Shape := ⟨2, ![1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  dot_S1024x8192_S8192x4096_S1024x4096_1_0_0_1_n_n_wf : DotDims.WF S1024x8192 S8192x4096 S1024x4096 [1] [0] [0] [1] [] []

variable [Facts]

def dot_S1024x8192_S8192x4096_S1024x4096_1_0_0_1_n_n : DotDims S1024x8192 S8192x4096 S1024x4096 where
  lhsContracting := [1]
  rhsContracting := [0]
  lhsNonContracting := [0]
  rhsNonContracting := [1]
  lhsBatch := []
  rhsBatch := []
  wf := dot_S1024x8192_S8192x4096_S1024x4096_1_0_0_1_n_n_wf
def fn {F : FTy → Type} [FloatOps F] (main_arg0 : FVec F S1024x8192 .f32) (main_arg1 : FVec F S8192x4096 .f32) : IVec S_ 1 :=
  let main_v0 : FVec F S1024x4096 .f32 := (fun l r => Host.dotGeneral dot_S1024x8192_S8192x4096_S1024x4096_1_0_0_1_n_n none l r) main_arg0 main_arg1
  let main_v1 : FVec F S1024x4096 .f32 := Host.absf main_v0
  let main_cst : FVec F S_ .f32 := constant S_ .f32 0x42700000#32
  let main_v2 : FVec F S1024x4096 .f32 := broadcastInDim S1024x4096 ![] bcast_S_S1024x4096 main_cst
  let main_v3 : IVec S1024x4096 1 := cmpf .ole main_v1 main_v2
  let main_c : IVec S_ 1 := constantI S_ 1 1#1
  let main_v4 : IVec S_ 1 := (fun x v => Host.reduce IntOp.andi x v reducesTo_S1024x4096_S_d0_1 h_S_) main_v3 main_c
  main_v4
-- ==== Kernel.lean ====
abbrev S1024x8192 : Shape := ⟨2, ![1024, 8192]⟩
abbrev S8192x4096 : Shape := ⟨2, ![8192, 4096]⟩
abbrev S8192x512 : Shape := ⟨2, ![8192, 512]⟩
abbrev S2x1024x512 : Shape := ⟨3, ![2, 1024, 512]⟩
abbrev S4x2048x512 : Shape := ⟨3, ![4, 2048, 512]⟩
abbrev S4x1024x512 : Shape := ⟨3, ![4, 1024, 512]⟩
abbrev S2 : Shape := ⟨1, ![2]⟩
abbrev S4 : Shape := ⟨1, ![4]⟩
abbrev S8 : Shape := ⟨1, ![8]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S1x1024x512 : Shape := ⟨3, ![1, 1024, 512]⟩
abbrev S1024x512 : Shape := ⟨2, ![1024, 512]⟩
abbrev S1024x2048 : Shape := ⟨2, ![1024, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S8192x4096, .f32⟩
  | .hbm, ⟨2, _⟩ => ⟨S8192x512, .bf16⟩
  | .local _ .vmem, ⟨0, _⟩ => ⟨S1024x8192, .bf16⟩
  | .local _ .vmem, ⟨1, _⟩ => ⟨S2x1024x512, .f32⟩
  | .local _ .vmem, ⟨2, _⟩ => ⟨S4x2048x512, .f32⟩
  | .local _ .vmem, ⟨3, _⟩ => ⟨S4x1024x512, .bf16⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c0_i32
  let c1_i32_0 : BitVec 32 := 1#32
  let v4 : BitVec 32 := Scalar.addi v3 c1_i32_0
  let c8_i32_1 : BitVec 32 := 8#32
  let v5 : BitVec 32 := Scalar.remsi v4 c8_i32_1
  let c512_i32 : BitVec 32 := 512#32
  let v6 : BitVec 32 := Scalar.muli v5 c512_i32
  ![0, v6.toNat]
def k0_off2 (d0 : Dev nD) (c0_i32_7 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v12 : BitVec 32 := Scalar.addi v2 c0_i32_7
  let c1_i32_8 : BitVec 32 := 1#32
  let v13 : BitVec 32 := Scalar.addi v12 c1_i32_8
  let c8_i32_9 : BitVec 32 := 8#32
  let v14 : BitVec 32 := Scalar.remsi v13 c8_i32_9
  let c512_i32_10 : BitVec 32 := 512#32
  let v15 : BitVec 32 := Scalar.muli v14 c512_i32_10
  ![2048, v15.toNat]
def k0_off3 (d0 : Dev nD) (c0_i32_15 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : BitVec 32 := Scalar.addi v2 c0_i32_15
  let c1_i32_16 : BitVec 32 := 1#32
  let v22 : BitVec 32 := Scalar.addi v21 c1_i32_16
  let c8_i32_17 : BitVec 32 := 8#32
  let v23 : BitVec 32 := Scalar.remsi v22 c8_i32_17
  let c512_i32_18 : BitVec 32 := 512#32
  let v24 : BitVec 32 := Scalar.muli v23 c512_i32_18
  ![4096, v24.toNat]
def k0_off4 (d0 : Dev nD) (c0_i32_103 : BitVec 32) : Fin 2 → Nat :=
  let c6144_i32 : BitVec 32 := 6144#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.addi v2 c0_i32_103
  let c1_i32_104 : BitVec 32 := 1#32
  let v114 : BitVec 32 := Scalar.addi v113 c1_i32_104
  let c8_i32_105 : BitVec 32 := 8#32
  let v115 : BitVec 32 := Scalar.remsi v114 c8_i32_105
  let c512_i32_106 : BitVec 32 := 512#32
  let v116 : BitVec 32 := Scalar.muli v115 c512_i32_106
  ![6144, v116.toNat]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_363 : BitVec 32 := 1024#32
  let v390 : BitVec 32 := Scalar.muli v2 c1024_i32_363
  let c0_i32_369 : BitVec 32 := 0#32
  ![v390.toNat, 0]
def k0_dev1 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_360 : BitVec 32 := 0#32
  let v387 : BitVec 32 := Scalar.addi v2 c0_i32_360
  let c1_i32_361 : BitVec 32 := 1#32
  let v388 : BitVec 32 := Scalar.addi v387 c1_i32_361
  let c8_i32_362 : BitVec 32 := 8#32
  let v389 : BitVec 32 := Scalar.remsi v388 c8_i32_362
  let c1_i32_367 : BitVec 32 := 1#32
  let v391 : BitVec 32 := Scalar.muli v389 c1_i32_367
  let v392 : BitVec 32 := Scalar.addi c0_i32_368 v391
  v392.toNat
def k0_dev2 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_471 : BitVec 32 := 1#32
  let v501 : BitVec 32 := Scalar.addi v2 c1_i32_471
  let c1_i32_472 : BitVec 32 := 1#32
  let v502 : BitVec 32 := Scalar.addi v501 c1_i32_472
  let c8_i32_473 : BitVec 32 := 8#32
  let v503 : BitVec 32 := Scalar.remsi v502 c8_i32_473
  let c1_i32_478 : BitVec 32 := 1#32
  let v505 : BitVec 32 := Scalar.muli v503 c1_i32_478
  let v506 : BitVec 32 := Scalar.addi c0_i32_479 v505
  v506.toNat
def k0_dev3 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_582 : BitVec 32 := 2#32
  let v615 : BitVec 32 := Scalar.addi v2 c2_i32_582
  let c1_i32_583 : BitVec 32 := 1#32
  let v616 : BitVec 32 := Scalar.addi v615 c1_i32_583
  let c8_i32_584 : BitVec 32 := 8#32
  let v617 : BitVec 32 := Scalar.remsi v616 c8_i32_584
  let c1_i32_589 : BitVec 32 := 1#32
  let v619 : BitVec 32 := Scalar.muli v617 c1_i32_589
  let v620 : BitVec 32 := Scalar.addi c0_i32_590 v619
  v620.toNat
def k0_dev4 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_692 : BitVec 32 := 3#32
  let v729 : BitVec 32 := Scalar.addi v2 c3_i32_692
  let c1_i32_693 : BitVec 32 := 1#32
  let v730 : BitVec 32 := Scalar.addi v729 c1_i32_693
  let c8_i32_694 : BitVec 32 := 8#32
  let v731 : BitVec 32 := Scalar.remsi v730 c8_i32_694
  let c1_i32_699 : BitVec 32 := 1#32
  let v733 : BitVec 32 := Scalar.muli v731 c1_i32_699
  let v734 : BitVec 32 := Scalar.addi c0_i32_700 v733
  v734.toNat
def k0_dev5 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_813 : BitVec 32 := 4#32
  let v852 : BitVec 32 := Scalar.addi v2 c4_i32_813
  let c1_i32_814 : BitVec 32 := 1#32
  let v853 : BitVec 32 := Scalar.addi v852 c1_i32_814
  let c8_i32_815 : BitVec 32 := 8#32
  let v854 : BitVec 32 := Scalar.remsi v853 c8_i32_815
  let c1_i32_820 : BitVec 32 := 1#32
  let v856 : BitVec 32 := Scalar.muli v854 c1_i32_820
  let v857 : BitVec 32 := Scalar.addi c0_i32_821 v856
  v857.toNat
def k0_dev6 (d0 : Dev nD) : Nat :=
  let c0_i32_942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_934 : BitVec 32 := 5#32
  let v975 : BitVec 32 := Scalar.addi v2 c5_i32_934
  let c1_i32_935 : BitVec 32 := 1#32
  let v976 : BitVec 32 := Scalar.addi v975 c1_i32_935
  let c8_i32_936 : BitVec 32 := 8#32
  let v977 : BitVec 32 := Scalar.remsi v976 c8_i32_936
  let c1_i32_941 : BitVec 32 := 1#32
  let v979 : BitVec 32 := Scalar.muli v977 c1_i32_941
  let v980 : BitVec 32 := Scalar.addi c0_i32_942 v979
  v980.toNat
def k0_dev7 (d0 : Dev nD) : Nat :=
  let c0_i32_1063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1055 : BitVec 32 := 6#32
  let v1098 : BitVec 32 := Scalar.addi v2 c6_i32_1055
  let c1_i32_1056 : BitVec 32 := 1#32
  let v1099 : BitVec 32 := Scalar.addi v1098 c1_i32_1056
  let c8_i32_1057 : BitVec 32 := 8#32
  let v1100 : BitVec 32 := Scalar.remsi v1099 c8_i32_1057
  let c1_i32_1062 : BitVec 32 := 1#32
  let v1102 : BitVec 32 := Scalar.muli v1100 c1_i32_1062
  let v1103 : BitVec 32 := Scalar.addi c0_i32_1063 v1102
  v1103.toNat
def k0_off6 (d0 : Dev nD) (c0_i32_1195 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1233 : BitVec 32 := Scalar.subi v2 c0_i32_1195
  let c1_i32_1196 : BitVec 32 := 1#32
  let v1234 : BitVec 32 := Scalar.subi v1233 c1_i32_1196
  let c8_i32_1197 : BitVec 32 := 8#32
  let v1235 : BitVec 32 := Scalar.addi v1234 c8_i32_1197
  let c8_i32_1198 : BitVec 32 := 8#32
  let v1236 : BitVec 32 := Scalar.remsi v1235 c8_i32_1198
  let c1024_i32_1199 : BitVec 32 := 1024#32
  let v1237 : BitVec 32 := Scalar.muli v1236 c1024_i32_1199
  let c0_i32_1208 : BitVec 32 := 0#32
  ![v1237.toNat, 0]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BoundedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.Common.lean ====
/-
  What the halves of this certificate share: the resource algebra, the devices' arithmetic, the memrefs and cells of the
  protocol, the tile each device computes in each step, the schedule of the send and receive cells with what each hands
  over, what a device owes at launch and the levels under which it waits.
-/
module

public import proofs.«01_k».proof.Defs
public import proofs.«01_k».proof.Proof.Gen.KernelIdeal.Frame
public import proofs.«01_k».proof.Proof.Gen.KernelIdeal.Skeleton
public import Idealize.ShloMosaic.Lib.Transfers

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds library's algebra over the machine's cells, one duty a round. -/
abbrev RC : Type := URounds (GSem nD τ sig) Unit
/-- The pipeline's copy, the exchange's copy, and the counters the local copies use. -/
abbrev UU : Type := RC × (RC × Counters)

local notation "𝕄" => MT nD τ sig Unit (Elt F) ℕ UU ℕ

/-- The pipeline's copy inside the whole algebra, -/
def EP : Emb RC (MT nD τ sig Unit (Elt F) ℕ UU ℕ) :=
  (Emb.inl : Emb RC UU).trans (uEmb (nD := nD) (sig := sig) (Ix := Unit) (Val := Elt F) (Name := ℕ) (U := UU) (Lvl := ℕ)).toEmb
/-- and the exchange's. -/
def ER : Emb RC (MT nD τ sig Unit (Elt F) ℕ UU ℕ) :=
  ((Emb.inl : Emb RC (RC × Counters)).trans (Emb.inr : Emb (RC × Counters) UU)).trans
    (uEmb (nD := nD) (sig := sig) (Ix := Unit) (Val := Elt F) (Name := ℕ) (U := UU) (Lvl := ℕ)).toEmb

instance EP_landsIn : (EP : Emb RC 𝕄).LandsIn (upEmb : UEmb _ 𝕄) := by unfold EP; infer_instance
instance ER_landsIn : (ER : Emb RC 𝕄).LandsIn (upEmb : UEmb _ 𝕄) := by unfold ER; infer_instance

/-- The kernel calls no function of its own. -/
abbrev 𝒱₀ : Variants := Variants.none

/-! ## The devices -/

set_option backward.proofsInPublic true in
/-- The device whose columns device `c` computes in step `s`, and to which it sends them when `s < 7`, -/
def dst (c : Dev nD) (s : ℕ) : Dev nD := ⟨(c.val + s + 1) % 8, Nat.mod_lt _ (by decide)⟩
set_option backward.proofsInPublic true in
/-- and the device from which device `c` receives what that device sends in its step `s`. -/
def src (c : Dev nD) (s : ℕ) : Dev nD := ⟨(c.val + 7 - s) % 8, Nat.mod_lt _ (by decide)⟩

theorem src_dst (c : Dev nD) (s : Fin 7) : src (dst c s.val) s.val = c := by revert c s; decide
theorem dst_src (c : Dev nD) (s : Fin 7) : dst (src c s.val) s.val = c := by revert c s; decide
theorem dst_ne (c : Dev nD) (s : Fin 7) : dst c s.val ≠ c := by revert c s; decide
theorem dst_inj (c : Dev nD) (s s' : Fin 7) (h : dst c s.val = dst c s'.val) : s = s' := by
  revert c s s'; decide

/-! ## Cells -/

/-- Device `c`'s DMA semaphore number `k`: 0 and 1 are the chunk copies', 2 to 5 the block copies', 6 to 13 the sends',
    14 to 21 the receipts'. -/
abbrev cell (c : Dev nD) (k : ℕ) (h : k < 22 := by decide) : GSem nD τ sig := ((c : Thread nD τ), .dma ⟨k, h⟩)

/-! ## Memrefs -/

abbrev aM : Memref sig .tc .hbm S1024x8192 .f32 := Memref.whole main_arg0
abbrev wM : Memref sig .tc .hbm S8192x4096 .f32 := Memref.whole main_arg1
abbrev oM : Memref sig .tc .hbm S8192x512 .bf16 := Memref.whole main_v1
abbrev xbM : Memref sig .tc .vmem S1024x8192 .bf16 := Memref.whole cc0_scratch0
abbrev xsM : Memref sig .tc .vmem S2x1024x512 .f32 := Memref.whole cc0_scratch1
abbrev wfM : Memref sig .tc .vmem S4x2048x512 .f32 := Memref.whole cc0_scratch2
abbrev sbM : Memref sig .tc .vmem S4x1024x512 .bf16 := Memref.whole cc0_scratch3

/-- Row block `c` of the result array: where device `c`'s tiles land, on whatever device. -/
abbrev oBlk (c : Dev nD) : Memref sig .tc .hbm S1024x512 .bf16 :=
  oM.slice (Rect.unit (s := S8192x512) (k0_off5 c) S1024x512.size (k0_off5_inb c)) (fun _ => rfl)

/-- Slot `k` of the chunk buffer, of the block buffer and of the send buffer. -/
abbrev xSlot (k : ℕ) (h : ∀ a, (![k, 0, 0] : Fin 3 → ℕ) a + S1x1024x512.size a ≤ S2x1024x512.size a) : Memref sig .tc .vmem S1024x512 .f32 :=
  (xsM.slice (Rect.unit (s := S2x1024x512) ![k, 0, 0] S1x1024x512.size h) (fun _ => rfl)).squeeze S1024x512 squeezes_S1x1024x512_S1024x512
abbrev wSlot (k : ℕ) (h : ∀ a, (![k, 0, 0] : Fin 3 → ℕ) a + S1x2048x512.size a ≤ S4x2048x512.size a) : Memref sig .tc .vmem S2048x512 .f32 :=
  (wfM.slice (Rect.unit (s := S4x2048x512) ![k, 0, 0] S1x2048x512.size h) (fun _ => rfl)).squeeze S2048x512 squeezes_S1x2048x512_S2048x512
abbrev sSlot (k : ℕ) (h : ∀ a, (![k, 0, 0] : Fin 3 → ℕ) a + S1x1024x512.size a ≤ S4x1024x512.size a) : Memref sig .tc .vmem S1024x512 .bf16 :=
  (sbM.slice (Rect.unit (s := S4x1024x512) ![k, 0, 0] S1x1024x512.size h) (fun _ => rfl)).squeeze S1024x512 squeezes_S1x1024x512_S1024x512

theorem xSlot_sub (k : ℕ) (h) : (xsM.access (Rect.unit (s := S2x1024x512) ![k, 0, 0] S1x1024x512.size h)).set ⊆ (xSlot k h).view.set :=
  fun _ hi => by rw [show (xSlot k h).view.set = _ from View.set_reshape _ _]; exact hi
theorem wSlot_sub (k : ℕ) (h) : (wfM.access (Rect.unit (s := S4x2048x512) ![k, 0, 0] S1x2048x512.size h)).set ⊆ (wSlot k h).view.set :=
  fun _ hi => by rw [show (wSlot k h).view.set = _ from View.set_reshape _ _]; exact hi
theorem sSlot_sub (k : ℕ) (h) : (sbM.access (Rect.unit (s := S4x1024x512) ![k, 0, 0] S1x1024x512.size h)).set ⊆ (sSlot k h).view.set :=
  fun _ hi => by rw [show (sSlot k h).view.set = _ from View.set_reshape _ _]; exact hi

/-- What one tile's transfer credits. -/
abbrev N : ℕ := (oM : Memref sig .tc .hbm S8192x512 .bf16).view.ref.dmaCredit S1024x512 .bf16
theorem N_pos : 0 < N := View.dmaCredit_pos (oBlk 0).view (by decide)

end Cert.Proof

end
-- ==== Proof.Sched.lean ====
module

public import proofs.«01_k».proof.Proof.Common
public import Idealize.ShloMosaic.Lib.Exec

/-!
What the exchange moves and how its cells are scheduled: the tile a device computes in a step, in terms of its launch
arrays; the one round of every send and receive cell with its payload; what a device owes at launch; the levels of its waits.
-/

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The tiles -/

/-- Device `c`'s rows of the left factor, in the narrow format: what the body keeps in its first scratch buffer. -/
def xAll (c : Dev nD) : (cc0_scratch0 : Ref sig .tc).ty.Contents (Elt F) :=
  truncf (s := S1024x8192) .bf16 (m ((c : Thread nD τ).loc main_arg0)) bitsLt_bf16_f32

theorem xOff_inb (q : Fin 4) : ∀ a, (![0, 2048 * q.val] : Fin 2 → ℕ) a + S1024x2048.size a ≤ S1024x8192.size a := by
  revert q; decide
theorem wOff_inb (c : Dev nD) (s : ℕ) (q : Fin 4) :
    ∀ a, (![2048 * q.val, 512 * ((c.val + s + 1) % 8)] : Fin 2 → ℕ) a + S2048x512.size a ≤ S8192x4096.size a := by
  have h := Nat.mod_lt (c.val + s + 1) (show 0 < 8 by decide)
  have hq := q.isLt
  intro a
  fin_cases a
  · show 2048 * q.val + 2048 ≤ 8192; omega
  · show 512 * ((c.val + s + 1) % 8) + 512 ≤ 4096; omega

/-- Column block `q` of those rows, -/
def xPart (c : Dev nD) (q : Fin 4) : FVec F S1024x2048 .bf16 :=
  xbM.view.readAt (Elt F) (Rect.unit (s := S1024x8192) ![0, 2048 * q.val] S1024x2048.size (xOff_inb q)).toLoadRect (xAll m c)
/-- row block `q` of the right factor's columns for step `s`, -/
def wPart (c : Dev nD) (s : ℕ) (q : Fin 4) : FVec F S2048x512 .f32 :=
  (wM.slice (Rect.unit (s := S8192x4096) ![2048 * q.val, 512 * ((c.val + s + 1) % 8)] S2048x512.size (wOff_inb c s q)) (fun _ => rfl)).view.read (Elt F)
    (m ((c : Thread nD τ).loc main_arg1))
/-- and their product. -/
def prodPart (c : Dev nD) (s : ℕ) (q : Fin 4) : FVec F S1024x512 .f32 :=
  matmul dot_S1024x2048_S2048x512_S1024x512_1_0_0_1_n_n none (xPart m c q) (truncf .bf16 (wPart m c s q) bitsLt_bf16_f32) (constant S1024x512 .f32 0x00000000#32)

/-- A step's sum of the four products, -/
def total (c : Dev nD) (s : ℕ) : FVec F S1024x512 .f32 :=
  addf (addf (addf (prodPart m c s 0) (prodPart m c s 1)) (prodPart m c s 2)) (prodPart m c s 3)
/-- and the tile: the sum through the activation, in the narrow format. -/
def tile (c : Dev nD) (s : ℕ) : FVec F S1024x512 .bf16 :=
  truncf .bf16 (mulf (total m c s) (logistic (total m c s))) bitsLt_bf16_f32

/-! ## The payloads -/

theorem sInb (s : ℕ) : ∀ a, (![s % 4, 0, 0] : Fin 3 → ℕ) a + S1x1024x512.size a ≤ S4x1024x512.size a := by
  have h := Nat.mod_lt s (show 0 < 4 by decide)
  intro a
  fin_cases a
  · show s % 4 + 1 ≤ 4; omega
  · show 0 + 1024 ≤ 1024; omega
  · show 0 + 512 ≤ 512; omega

/-- Slot `k` of device `c`'s send buffer holding its tile of step `s`. -/
abbrev slotPay (c : Dev nD) (k : ℕ) (h : ∀ a, (![k, 0, 0] : Fin 3 → ℕ) a + S1x1024x512.size a ≤ S4x1024x512.size a) (s : ℕ) : sProp 𝕄 :=
  (sSlot k h).view.loc (c : Thread nD τ) ↦[(sSlot k h).view.set]{fullShare} (sSlot k h).view.write (Elt F) (sSlot k h).view.junk (tile m c s) Finset.univ

/-- Row block `c` of device `d`'s result, holding what slot `k` of device `c`'s send buffer does above, over the launch
    contents. -/
abbrev landPay (d c : Dev nD) (k : ℕ) (h : ∀ a, (![k, 0, 0] : Fin 3 → ℕ) a + S1x1024x512.size a ≤ S4x1024x512.size a) (s : ℕ) : sProp 𝕄 :=
  (oBlk c).view.loc (d : Thread nD τ) ↦[(oBlk c).view.set]{fullShare} (oBlk c).view.write (Elt F) (m ((d : Thread nD τ).loc main_v1))
    ((sSlot k h).view.read (Elt F) ((sSlot k h).view.write (Elt F) (sSlot k h).view.junk (tile m c s) Finset.univ)) Finset.univ

instance slotPay_storable (c : Dev nD) (k : ℕ) (h) (s : ℕ) : BI.Storable (upEmb : UEmb _ 𝕄) (slotPay (F := F) m c k h s) := by
  unfold slotPay; infer_instance
instance landPay_storable (d c : Dev nD) (k : ℕ) (h) (s : ℕ) : BI.Storable (upEmb : UEmb _ 𝕄) (landPay (F := F) m d c k h s) := by
  unfold landPay; infer_instance

/-! ## The schedule -/

/-- Whether a cell is the send cell of one of the seven exchanges, -/
def IsSend : SemLoc sig → Prop
  | .dma k => 6 ≤ k.val ∧ k.val < 13
  | _ => False
/-- or the receive cell of one. -/
def IsRecv : SemLoc sig → Prop
  | .dma k => 14 ≤ k.val ∧ k.val < 21
  | _ => False

instance : DecidablePred IsSend := fun s => by cases s <;> (unfold IsSend; infer_instance)
instance : DecidablePred IsRecv := fun s => by cases s <;> (unfold IsRecv; infer_instance)

theorem not_recv (k : ℕ) (h : k < 22) (hk : k < 14) : ¬ IsRecv (.dma ⟨k, h⟩) := fun h' : 14 ≤ k ∧ k < 21 => by omega

/-- A DMA cell's number. -/
def num : SemLoc sig → ℕ
  | .dma k => k.val
  | _ => 0

/-- One round of one duty on every send and receive cell: a tile's credit; a send cell's payload is the slot back, a
    receive cell's the row block with the sender's tile. -/
def sched : Rounds.Schedule (GSem nD τ sig) Unit 𝕄 where
  duties g r := if r = 0 ∧ g.1.2 = .tc ∧ (IsSend g.2 ∨ IsRecv g.2) then {()} else ∅
  unitless _ := False
  amount _ _ _ := N
  payload g _ _ :=
    if IsRecv g.2 then landPay m g.1.1 (src g.1.1 (num g.2 - 14)) ((num g.2 - 14) % 4) (sInb (num g.2 - 14)) (num g.2 - 14)
    else if IsSend g.2 then slotPay m g.1.1 ((num g.2 - 6) % 4) (sInb (num g.2 - 6)) (num g.2 - 6)
    else iprop(emp)
  amount_pos _ _ _ _ := N_pos

instance sched_payload_storable (g : GSem nD τ sig) (r : ℕ) (d : Unit) :
    BI.Storable (upEmb : UEmb _ 𝕄) ((sched (F := F) m).payload g r d) := by
  dsimp only [sched]
  (repeat' split) <;> infer_instance

theorem duties_send (c : Dev nD) (k : ℕ) (h : k < 22) (h1 : 6 ≤ k) (h2 : k < 13) : (sched (F := F) m).duties (cell c k h) 0 = {()} := by
  dsimp only [sched]; exact if_pos ⟨rfl, rfl, .inl ⟨h1, h2⟩⟩
theorem duties_recv (c : Dev nD) (k : ℕ) (h : k < 22) (h1 : 14 ≤ k) (h2 : k < 21) : (sched (F := F) m).duties (cell c k h) 0 = {()} := by
  dsimp only [sched]; exact if_pos ⟨rfl, rfl, .inr ⟨h1, h2⟩⟩
/-- After round 0 no cell has a duty. -/
theorem duties_later (g : GSem nD τ sig) : ∀ r, 1 ≤ r → (sched (F := F) m).duties g r = ∅ :=
  fun r hr => by dsimp only [sched]; exact if_neg fun h => by omega

theorem amount_eq (g : GSem nD τ sig) (r : ℕ) (u : Unit) : (sched (F := F) m).amount g r u = N := rfl

theorem expect_send (c : Dev nD) (k : ℕ) (h : k < 22) (h1 : 6 ≤ k) (h2 : k < 13) : (sched (F := F) m).expect (cell c k h) 0 = N := by
  unfold Schedule.expect Schedule.amountOf; rw [duties_send m c k h h1 h2, Finset.sum_singleton, amount_eq]
theorem expect_recv (c : Dev nD) (k : ℕ) (h : k < 22) (h1 : 14 ≤ k) (h2 : k < 21) : (sched (F := F) m).expect (cell c k h) 0 = N := by
  unfold Schedule.expect Schedule.amountOf; rw [duties_recv m c k h h1 h2, Finset.sum_singleton, amount_eq]

theorem payload_send (c : Dev nD) (k : ℕ) (h : k < 22) (h1 : 6 ≤ k) (h2 : k < 13) (r : ℕ) (u : Unit) :
    (sched (F := F) m).payload (cell c k h) r u = slotPay m c ((k - 6) % 4) (sInb (k - 6)) (k - 6) := by
  dsimp only [sched]
  rw [if_neg (not_recv k h (by omega)), if_pos (show IsSend (.dma ⟨k, h⟩) from ⟨h1, h2⟩)]; rfl
theorem payload_recv (c : Dev nD) (k : ℕ) (h : k < 22) (h1 : 14 ≤ k) (h2 : k < 21) (r : ℕ) (u : Unit) :
    (sched (F := F) m).payload (cell c k h) r u = landPay m c (src c (k - 14)) ((k - 14) % 4) (sInb (k - 14)) (k - 14) := by
  dsimp only [sched]
  rw [if_pos (show IsRecv (.dma ⟨k, h⟩) from ⟨h1, h2⟩)]; rfl

theorem src_dst' (c : Dev nD) (s : ℕ) (h : s < 7) : src (dst c s) s = c := src_dst c ⟨s, h⟩

/-! ## What a device owes, and the levels -/

theorem lt22 (s : Fin 7) : 14 + s.val < 22 := by omega

/-- What device `c` owes from its step `k` on: each receive cell it is still to send to, a tile's credit. -/
def owed (c : Dev nD) (k : ℕ) : CellTallies nD τ sig Unit :=
  ∑ s : Fin 7, if k ≤ s.val then tallyAt (cell (dst c s.val) (14 + s.val) (lt22 s)) () N else 0

theorem owed_peel (c : Dev nD) (k : Fin 7) :
    owed c k.val = owed c (k.val + 1) + tallyAt (cell (dst c k.val) (14 + k.val) (lt22 k)) () N := by
  unfold owed
  have hk : ∀ s : Fin 7, (if k.val ≤ s.val then tallyAt (cell (dst c s.val) (14 + s.val) (lt22 s)) () N else (0 : CellTallies nD τ sig Unit))
      = (if k.val + 1 ≤ s.val then tallyAt (cell (dst c s.val) (14 + s.val) (lt22 s)) () N else 0)
        + (if s = k then tallyAt (cell (dst c k.val) (14 + k.val) (lt22 k)) () N else 0) := by
    intro s
    rcases Nat.lt_trichotomy s.val k.val with h | h | h
    · rw [if_neg (by omega), if_neg (by omega), if_neg (fun e => by subst e; omega), zero_add]
    · obtain rfl : s = k := Fin.ext h
      rw [if_pos (Nat.le_refl _), if_neg (by omega), if_pos rfl, zero_add]
    · rw [if_pos (by omega), if_pos (by omega), if_neg (fun e => by subst e; omega), add_zero]
  rw [Finset.sum_congr rfl fun s _ => hk s, Finset.sum_add_distrib, Finset.sum_ite_eq' Finset.univ k, if_pos (Finset.mem_univ k)]

theorem owed_end (c : Dev nD) : owed c 7 = 0 := by
  unfold owed
  exact Finset.sum_eq_zero fun s _ => if_neg (by omega)

/-- Where `owed c k` is not zero: at a receive cell. -/
theorem owed_pos {c : Dev nD} {k : ℕ} {g : GSem nD τ sig} {u : Unit} (h : 0 < owed c k g u) :
    ∃ s : Fin 7, k ≤ s.val ∧ g = cell (dst c s.val) (14 + s.val) (lt22 s) := by
  unfold owed at h
  by_contra hn
  rw [not_exists] at hn
  rw [Finset.sum_apply, Finsupp.finsetSum_apply, Finset.sum_eq_zero] at h
  · exact Nat.lt_irrefl 0 h
  · intro s _
    by_cases hs : k ≤ s.val
    · rw [if_pos hs, tallyAt_apply, if_neg (fun h' => hn s ⟨hs, h'.1⟩)]
    · rw [if_neg hs]; rfl

/-- Every TensorCore cell has its one index levelled; -/
def L (g : GSem nD τ sig) : Finset Unit := if g.1.2 = .tc then {()} else ∅
/-- receive cells at 1, everything else at 0. -/
def lv (g : GSem nD τ sig) (_ : Unit) : ℕ := if IsRecv g.2 then 1 else 0

theorem L_of_ne (g : GSem nD τ sig) (h : g.1.2 ≠ .tc) : L g = ∅ := if_neg h
theorem L_tc (c : Dev nD) (sm : SemLoc sig) : L ((c : Thread nD τ), sm) = {()} := if_pos rfl

/-- A device may wait on any cell but a receive cell, whatever it owes of the exchange. -/
theorem mayWait_local (c : Dev nD) (k : ℕ) (h : k < 22) (hk : k < 14) (j : ℕ) :
    (levAts L lv : sProp 𝕄) ⊢ MayWait (c : Thread nD τ) (.dma ⟨k, h⟩) () (owed c j) := by
  refine MayOwe.of_cut (L := L) (lev := lv) 0 (fun p hp => by rw [Finset.mem_singleton.mp hp, L_tc]; exact Finset.mem_singleton_self _)
    (fun g u hg => by obtain ⟨s, -, rfl⟩ := owed_pos hg; exact Finset.mem_singleton_self _)
    (fun p hp => by
      rw [Finset.mem_singleton.mp hp]; dsimp only [lv]; rw [if_neg (not_recv k h hk)])
    (fun g u hg => by
      obtain ⟨s, -, rfl⟩ := owed_pos hg
      dsimp only [lv]
      rw [if_pos (show IsRecv (.dma ⟨14 + s.val, _⟩) from ⟨by simp, by simp; omega⟩)]; exact Nat.one_pos)

/-- Once its seven tiles are sent a device owes nothing, so it may wait on any cell. -/
theorem mayWait_end (c : Dev nD) (k : ℕ) (h : k < 22) : (levAts L lv : sProp 𝕄) ⊢ MayWait (c : Thread nD τ) (.dma ⟨k, h⟩) () (owed c 7) := by
  rw [owed_end, MayWait_zero]
  iintro -
  iempintro

end Cert.Proof

end
-- ==== Proof.Values.lean ====
module

public import proofs.«01_k».proof.Proof.Sched
public import Idealize.ShloMosaic.Lib.ViewIndex
public import Idealize.ShloMosaic.Lib.Pipeline.Value

/-!
The values the body's loads and stores carry, read back to the launch arrays: a block copied into a slot of a
scratch buffer and loaded again is the block; a chunk of rows stored in the narrow format and loaded in wider pieces
is the narrow copy of the rows; the tile a step stores is `tile`.
-/

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## Slots -/

/-- A slot of the block buffer, filled whole by `d`, loads as `d`; -/
theorem wload (k : ℕ) (h) (f : (cc0_scratch2 : Ref sig .tc).ty.Contents (Elt F)) (L : List (View.Piece (Elt F) S2048x512 .f32)) (d : S2048x512.Idx → Elt F .f32) :
    shapeCast S2048x512 (wfM.view.readAt (Elt F) (Rect.unit (s := S4x2048x512) ![k, 0, 0] S1x2048x512.size h).toLoadRect
      ((wSlot k h).view.writes (Elt F) f (⟨Rect.whole S2048x512, d⟩ :: L))) shapeCasts_S1x2048x512_S2048x512 = d := by
  refine Eq.trans (b := (wSlot k h).view.read (Elt F) ((wSlot k h).view.writes (Elt F) f (⟨Rect.whole S2048x512, d⟩ :: L))) rfl ?_
  funext y
  have e := View.read_writes_cons_emb (wSlot k h).view f (Rect.whole S2048x512) d L y
  rwa [Rect.emb_whole_apply] at e

/-- and a slot of the chunk buffer. -/
theorem xload (k : ℕ) (h) (f : (cc0_scratch1 : Ref sig .tc).ty.Contents (Elt F)) (L : List (View.Piece (Elt F) S1024x512 .f32)) (d : S1024x512.Idx → Elt F .f32) :
    shapeCast S1024x512 (xsM.view.readAt (Elt F) (Rect.unit (s := S2x1024x512) ![k, 0, 0] S1x1024x512.size h).toLoadRect
      ((xSlot k h).view.writes (Elt F) f (⟨Rect.whole S1024x512, d⟩ :: L))) shapeCasts_S1x1024x512_S1024x512 = d := by
  refine Eq.trans (b := (xSlot k h).view.read (Elt F) ((xSlot k h).view.writes (Elt F) f (⟨Rect.whole S1024x512, d⟩ :: L))) rfl ?_
  funext y
  have e := View.read_writes_cons_emb (xSlot k h).view f (Rect.whole S1024x512) d L y
  rwa [Rect.emb_whole_apply] at e

/-- A block of the right factor copied into a slot and loaded again is its part `q` for step `s`. -/
theorem wload_part (c : Dev nD) (s : ℕ) (q : Fin 4) (k : ℕ) (h) (f : (cc0_scratch2 : Ref sig .tc).ty.Contents (Elt F)) (L : List (View.Piece (Elt F) S2048x512 .f32))
    (off : Fin 2 → ℕ) (hoff : ∀ a, off a + S2048x512.size a ≤ S8192x4096.size a) (he : off = ![2048 * q.val, 512 * ((c.val + s + 1) % 8)]) :
    shapeCast S2048x512 (wfM.view.readAt (Elt F) (Rect.unit (s := S4x2048x512) ![k, 0, 0] S1x2048x512.size h).toLoadRect
      ((wSlot k h).view.writes (Elt F) f (⟨Rect.whole S2048x512, (wM.slice (Rect.unit (s := S8192x4096) off S2048x512.size hoff) (fun _ => rfl)).view.read (Elt F)
        (m ((c : Thread nD τ).loc main_arg1))⟩ :: L))) shapeCasts_S1x2048x512_S2048x512 = wPart m c s q := by
  subst he
  exact wload k h f L _

/-- A tile stored into a slot of the send buffer reads back as the tile, -/
theorem slot_read (k : ℕ) (h) (f : (cc0_scratch3 : Ref sig .tc).ty.Contents (Elt F)) (v : Vec F S1x1024x512 .bf16) (t : FVec F S1024x512 .bf16)
    (hv : v = shapeCast S1x1024x512 t shapeCasts_S1024x512_S1x1024x512) :
    (sSlot k h).view.read (Elt F) ((sbM.access (Rect.unit (s := S4x1024x512) ![k, 0, 0] S1x1024x512.size h)).write (Elt F) f v Finset.univ) = t := by
  funext y
  refine Eq.trans (b := (sbM.access (Rect.unit (s := S4x1024x512) ![k, 0, 0] S1x1024x512.size h)).read (Elt F)
    ((sbM.access (Rect.unit (s := S4x1024x512) ![k, 0, 0] S1x1024x512.size h)).write (Elt F) f v Finset.univ)
      (Shape.reshapeEquiv shapeCasts_S1x1024x512_S1024x512 y)) rfl ?_
  rw [View.read_write_univ, hv]
  exact shapeCast_apply t _ _ y (Shape.rowMajor_reshapeEquiv shapeCasts_S1x1024x512_S1024x512 y).symm

/-- and a tile copied into a row block of the result, over whatever that held. -/
theorem block_read (d : Dev nD) (f : (main_v1 : Ref sig .tc).ty.Contents (Elt F)) (t : S1024x512.Idx → Elt F .bf16) :
    (oBlk d).view.read (Elt F) ((oBlk d).view.writes (Elt F) f [⟨Rect.whole S1024x512, t⟩]) = t := by
  funext y
  have e := View.read_writes_cons_emb (oBlk d).view f (Rect.whole S1024x512) t [] y
  rwa [Rect.emb_whole_apply] at e

/-! ## The narrow copy of the rows -/

theorem chunk_inb (k : ℕ) (hk : k < 16) : ∀ a, (![0, 512 * k] : Fin 2 → ℕ) a + S1024x512.size a ≤ S1024x8192.size a := by
  intro a
  fin_cases a
  · show 0 + 1024 ≤ 1024; omega
  · show 512 * k + 512 ≤ 8192; omega

/-- The rectangle of chunk `k`. -/
abbrev chunk (k : ℕ) (hk : k < 16) : Rect S1024x8192 := Rect.unit (s := S1024x8192) ![0, 512 * k] S1024x512.size (chunk_inb k hk)

/-- The pieces all hold what `xAll` does, and the first `n` chunks are among them. -/
def Agrees (c : Dev nD) (n : ℕ) (L : List (View.Piece (Elt F) S1024x8192 .bf16)) : Prop :=
  (∀ p ∈ L, ∀ x, p.2 x = xAll m c (p.1.emb x)) ∧ ∀ k, k < n → ∀ hk : k < 16, chunk k hk ∈ L.map Sigma.fst

theorem agrees_nil (c : Dev nD) : Agrees m c 0 [] := ⟨fun _ h => absurd h List.not_mem_nil, fun _ h => absurd h (Nat.not_lt_zero _)⟩

/-- What agreeing pieces leave at an element they cover. -/
theorem read_agrees (c : Dev nD) (f : (cc0_scratch0 : Ref sig .tc).ty.Contents (Elt F)) (y : S1024x8192.Idx) :
    ∀ L : List (View.Piece (Elt F) S1024x8192 .bf16), (∀ p ∈ L, ∀ x, p.2 x = xAll m c (p.1.emb x)) → (∃ p ∈ L, y ∈ p.1.set) →
      xbM.view.read (Elt F) (xbM.view.writes (Elt F) f L) y = xAll m c y
  | [], _, h => by obtain ⟨_, hm, _⟩ := h; exact absurd hm List.not_mem_nil
  | p :: L, ha, h => by
    by_cases hy : y ∈ p.1.set
    · obtain ⟨x, rfl⟩ := p.1.exists_idx_of_mem hy
      refine (View.read_writes_cons_emb xbM.view f p.1 p.2 L x).trans (ha p (List.mem_cons_self ..) x)
    · rw [View.writes_cons, View.read_slice_write_of_not_mem p.1 _ _ _ (by rwa [Rect.map_emb_univ])]
      refine read_agrees c f y L (fun p' h' => ha p' (List.mem_cons_of_mem _ h')) ?_
      obtain ⟨p', hm, hy'⟩ := h
      rcases List.mem_cons.mp hm with rfl | hm
      · exact absurd hy' hy
      · exact ⟨p', hm, hy'⟩

/-- A load of column block `q` after the chunks up to its last is `xPart`. -/
theorem xload_part (c : Dev nD) (q : Fin 4) (n : ℕ) (hn : 4 * q.val + 4 ≤ n) (f : (cc0_scratch0 : Ref sig .tc).ty.Contents (Elt F))
    (L : List (View.Piece (Elt F) S1024x8192 .bf16)) (ha : Agrees m c n L) :
    xbM.view.readAt (Elt F) (Rect.unit (s := S1024x8192) ![0, 2048 * q.val] S1024x2048.size (xOff_inb q)).toLoadRect (xbM.view.writes (Elt F) f L) = xPart m c q := by
  funext x
  refine read_agrees m c f _ L ha.1 ?_
  have h0 : (x 0).val < 1024 := (x 0).isLt
  have h1 : (x 1).val < 2048 := (x 1).isLt
  obtain ⟨p, hp, he⟩ := List.mem_map.mp (ha.2 (4 * q.val + (x 1).val / 512) (by omega) (by omega))
  refine ⟨p, hp, ?_⟩
  rw [he]
  refine Rect.mem_set_unit.mpr fun a => ?_
  fin_cases a
  · show 0 ≤ 0 + 1 * (x 0).val ∧ 0 + 1 * (x 0).val < 0 + 1024; omega
  · show 512 * (4 * q.val + (x 1).val / 512) ≤ 2048 * q.val + 1 * (x 1).val ∧ 2048 * q.val + 1 * (x 1).val < 512 * (4 * q.val + (x 1).val / 512) + 512; omega

/-- The next chunk of the rows, copied into a slot, loaded, narrowed and stored, keeps the agreement. -/
theorem agrees_chunk (c : Dev nD) (n : ℕ) (off : Fin 2 → ℕ) (hoff : ∀ a, off a + S1024x512.size a ≤ S1024x8192.size a) (k : ℕ) (h)
    (f : (cc0_scratch1 : Ref sig .tc).ty.Contents (Elt F)) (L : List (View.Piece (Elt F) S1024x512 .f32)) (L' : List (View.Piece (Elt F) S1024x8192 .bf16))
    (hL : Agrees m c n L') (he : off = ![0, 512 * n] := by rfl) :
    Agrees m c (n + 1) (⟨Rect.unit (s := S1024x8192) off S1024x512.size hoff, shapeCast S1024x512 (truncf (F := F) .bf16
      (shapeCast S1024x512 (xsM.view.readAt (Elt F) (Rect.unit (s := S2x1024x512) ![k, 0, 0] S1x1024x512.size h).toLoadRect
        ((xSlot k h).view.writes (Elt F) f (⟨Rect.whole S1024x512, (aM.slice (Rect.unit (s := S1024x8192) off S1024x512.size hoff) (fun _ => rfl)).view.read (Elt F)
          (m ((c : Thread nD τ).loc main_arg0))⟩ :: L))) shapeCasts_S1x1024x512_S1024x512) bitsLt_bf16_f32) shapeCasts_S1024x512_S1024x512⟩ :: L') := by
  subst he
  refine ⟨fun p hp => ?_, fun k' hk' h16 => ?_⟩
  · rcases List.mem_cons.mp hp with rfl | hp
    · intro x
      dsimp only
      rw [xload, shapeCast_self]; rfl
    · exact hL.1 p hp
  · rcases Nat.lt_or_ge k' n with hlt | hge
    · exact List.mem_cons_of_mem _ (hL.2 k' hlt h16)
    · obtain rfl : k' = n := by omega
      exact List.mem_cons_self ..

/-! ## The tile -/

/-- A step's chain of products, sums and activation. -/
def chain (x0 : Vec F S1024x2048 .bf16) (w0 : FVec F S2048x512 .f32) (x1 : Vec F S1024x2048 .bf16) (w1 : FVec F S2048x512 .f32)
    (x2 : Vec F S1024x2048 .bf16) (w2 : FVec F S2048x512 .f32) (x3 : Vec F S1024x2048 .bf16) (w3 : FVec F S2048x512 .f32) : FVec F S1024x512 .f32 :=
  addf (addf (addf
    (matmul dot_S1024x2048_S2048x512_S1024x512_1_0_0_1_n_n none x0 (truncf .bf16 w0 bitsLt_bf16_f32) (constant S1024x512 .f32 0x00000000#32))
    (matmul dot_S1024x2048_S2048x512_S1024x512_1_0_0_1_n_n none x1 (truncf .bf16 w1 bitsLt_bf16_f32) (constant S1024x512 .f32 0x00000000#32)))
    (matmul dot_S1024x2048_S2048x512_S1024x512_1_0_0_1_n_n none x2 (truncf .bf16 w2 bitsLt_bf16_f32) (constant S1024x512 .f32 0x00000000#32)))
    (matmul dot_S1024x2048_S2048x512_S1024x512_1_0_0_1_n_n none x3 (truncf .bf16 w3 bitsLt_bf16_f32) (constant S1024x512 .f32 0x00000000#32))

/-- The activation of a sum, narrowed, as a store into a slot takes it. -/
def stored (y : FVec F S1024x512 .f32) : Vec F S1x1024x512 .bf16 :=
  shapeCast S1x1024x512 (truncf .bf16 (mulf y (logistic y)) bitsLt_bf16_f32) shapeCasts_S1024x512_S1x1024x512

/-- A step's chain over parts read as above, stored into slot `k` of the send buffer, reads back as the step's tile, -/
theorem slot_tile_read (c : Dev nD) (s k : ℕ) (h) (f g : (cc0_scratch3 : Ref sig .tc).ty.Contents (Elt F)) (v : Vec F S1x1024x512 .bf16)
    (x0 x1 x2 x3 : Vec F S1024x2048 .bf16) (w0 w1 w2 w3 : Vec F S1x2048x512 .f32)
    (hv : v = stored (chain x0 (shapeCast S2048x512 w0 shapeCasts_S1x2048x512_S2048x512) x1 (shapeCast S2048x512 w1 shapeCasts_S1x2048x512_S2048x512)
      x2 (shapeCast S2048x512 w2 shapeCasts_S1x2048x512_S2048x512) x3 (shapeCast S2048x512 w3 shapeCasts_S1x2048x512_S2048x512)))
    (hg : g = (sbM.access (Rect.unit (s := S4x1024x512) ![k, 0, 0] S1x1024x512.size h)).write (Elt F) f v Finset.univ)
    (hx0 : x0 = xPart m c 0) (hw0 : shapeCast S2048x512 w0 shapeCasts_S1x2048x512_S2048x512 = wPart m c s 0) (hx1 : x1 = xPart m c 1) (hw1 : shapeCast S2048x512 w1 shapeCasts_S1x2048x512_S2048x512 = wPart m c s 1)
    (hx2 : x2 = xPart m c 2) (hw2 : shapeCast S2048x512 w2 shapeCasts_S1x2048x512_S2048x512 = wPart m c s 2) (hx3 : x3 = xPart m c 3) (hw3 : shapeCast S2048x512 w3 shapeCasts_S1x2048x512_S2048x512 = wPart m c s 3) :
    (sSlot k h).view.read (Elt F) g = tile m c s := by
  subst hg hx0 hx1 hx2 hx3
  rw [hw0, hw1, hw2, hw3] at hv
  exact slot_read k h f v (tile m c s) hv

/-- and is held as the tile, over contents that no longer matter. -/
theorem slot_tile (c : Dev nD) (s k : ℕ) (h) (f g : Buf (Elt F) ((c : Thread nD τ).loc cc0_scratch3)) (v : Vec F S1x1024x512 .bf16)
    (x0 x1 x2 x3 : Vec F S1024x2048 .bf16) (w0 w1 w2 w3 : Vec F S1x2048x512 .f32)
    (hv : v = stored (chain x0 (shapeCast S2048x512 w0 shapeCasts_S1x2048x512_S2048x512) x1 (shapeCast S2048x512 w1 shapeCasts_S1x2048x512_S2048x512)
      x2 (shapeCast S2048x512 w2 shapeCasts_S1x2048x512_S2048x512) x3 (shapeCast S2048x512 w3 shapeCasts_S1x2048x512_S2048x512)))
    (hg : g = (sbM.access (Rect.unit (s := S4x1024x512) ![k, 0, 0] S1x1024x512.size h)).write (Elt F) f v Finset.univ)
    (hx0 : x0 = xPart m c 0) (hw0 : shapeCast S2048x512 w0 shapeCasts_S1x2048x512_S2048x512 = wPart m c s 0) (hx1 : x1 = xPart m c 1) (hw1 : shapeCast S2048x512 w1 shapeCasts_S1x2048x512_S2048x512 = wPart m c s 1)
    (hx2 : x2 = xPart m c 2) (hw2 : shapeCast S2048x512 w2 shapeCasts_S1x2048x512_S2048x512 = wPart m c s 2) (hx3 : x3 = xPart m c 3) (hw3 : shapeCast S2048x512 w3 shapeCasts_S1x2048x512_S2048x512 = wPart m c s 3) :
    ((sSlot k h).view.loc (c : Thread nD τ) ↦[(sSlot k h).view.set]{fullShare} g)
      ⊢ ((sSlot k h).view.loc (c : Thread nD τ) ↦[(sSlot k h).view.set]{fullShare}
        (sSlot k h).view.write (Elt F) (sSlot k h).view.junk (tile m c s) Finset.univ : sProp 𝕄) := by
  refine Entails.of_eq (pointsTo_congr fun i hi => ?_)
  obtain ⟨y, -, rfl⟩ := Finset.mem_map.mp hi
  refine View.eq_of_read_eq ?_
  rw [View.read_write_univ]
  exact congrFun (slot_tile_read m c s k h f g v x0 x1 x2 x3 w0 w1 w2 w3 hv hg hx0 hw0 hx1 hw1 hx2 hw2 hx3 hw3) y

end Cert.Proof

end
-- ==== Proof.Body.lean ====
module

public import proofs.«01_k».proof.Proof.Values

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-- The launch's index of the cells: the seven send cells, then the seven receive cells. -/
abbrev sIx (s : Fin 7) : Fin 14 := ⟨s.val, by omega⟩
abbrev rIx (s : Fin 7) : Fin 14 := ⟨7 + s.val, by omega⟩

theorem lt22s (s : Fin 7) : 6 + s.val < 22 := by omega

/-- The three invariants a step of device `c` towards device `d` opens — its send cell's, its own receive cell's, and that of
    the receive cell its transfer credits — and that the two cells it pays have reached their round. -/
def invsAt (K : Dev nD × Fin 14 → ℕ) (c d : Dev nD) (i j : Fin 14) (k l : ℕ) (hk : k < 22) (hl : l < 22) : sProp 𝕄 :=
  iprop(cellInv ER (sched m) (K (c, i)) (cell c k hk) ∗ cellInv ER (sched m) (K (c, j)) (cell c l hl)
    ∗ cellInv ER (sched m) (K (d, j)) (cell d l hl) ∗ reached ER (cell c k hk) 0 ∗ reached ER (cell d l hl) 0)

/-- What such a step uses up: its place in its two cells' one round, the two duties' tokens, the credit its receive wait
    spends, and the row block of the destination it writes. -/
def shareAt (c d : Dev nD) (k l : ℕ) (hk : k < 22) (hl : l < 22) : sProp 𝕄 :=
  iprop(atPos ER (cell c k hk) 0 ∅ 0 ∗ atPos ER (cell c l hl) 0 ∅ 0
    ∗ dutyTok ER (cell c k hk) 0 () ∗ dutyTok ER (cell d l hl) 0 ()
    ∗ cred (tallyAt (cell c l hl) () N)
    ∗ ((oBlk c).view.loc (d : Thread nD τ) ↦[(oBlk c).view.set]{fullShare} m ((d : Thread nD τ).loc main_v1)))

/-- The two at step `s`. -/
def invs (K : Dev nD × Fin 14 → ℕ) (c : Dev nD) (s : Fin 7) : sProp 𝕄 :=
  invsAt m K c (dst c s.val) (sIx s) (rIx s) (6 + s.val) (14 + s.val) (lt22s s) (lt22 s)
def share (c : Dev nD) (s : Fin 7) : sProp 𝕄 :=
  shareAt m c (dst c s.val) (6 + s.val) (14 + s.val) (lt22s s) (lt22 s)

instance invs_persistent (K : Dev nD × Fin 14 → ℕ) (c : Dev nD) (s : Fin 7) : BI.Persistent (invs (F := F) m K c s) := by
  unfold invs invsAt; infer_instance

theorem fin7_sep (Φ : Fin 7 → sProp 𝕄) : bigSep Finset.univ Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ

theorem invs_sep (K : Dev nD × Fin 14 → ℕ) (c : Dev nD) : bigSep Finset.univ (invs (F := F) m K c)
    = iprop(invsAt m K c (dst c 0) 0 7 6 14 (by decide) (by decide) ∗ invsAt m K c (dst c 1) 1 8 7 15 (by decide) (by decide)
      ∗ invsAt m K c (dst c 2) 2 9 8 16 (by decide) (by decide) ∗ invsAt m K c (dst c 3) 3 10 9 17 (by decide) (by decide)
      ∗ invsAt m K c (dst c 4) 4 11 10 18 (by decide) (by decide) ∗ invsAt m K c (dst c 5) 5 12 11 19 (by decide) (by decide)
      ∗ invsAt m K c (dst c 6) 6 13 12 20 (by decide) (by decide)) := fin7_sep _

theorem share_sep (c : Dev nD) : bigSep Finset.univ (share (F := F) m c)
    = iprop(shareAt m c (dst c 0) 6 14 (by decide) (by decide) ∗ shareAt m c (dst c 1) 7 15 (by decide) (by decide)
      ∗ shareAt m c (dst c 2) 8 16 (by decide) (by decide) ∗ shareAt m c (dst c 3) 9 17 (by decide) (by decide)
      ∗ shareAt m c (dst c 4) 10 18 (by decide) (by decide) ∗ shareAt m c (dst c 5) 11 19 (by decide) (by decide)
      ∗ shareAt m c (dst c 6) 12 20 (by decide) (by decide)) := fin7_sep _

/-- The exchange's own semaphores: the seven send cells', then the seven receive cells'. -/
abbrev xsem (k : Fin 14) : SemLoc sig := .dma ⟨if k.val < 7 then 6 + k.val else 7 + k.val, by show _ < 22; split <;> omega⟩

theorem fin14_sep (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_eq_bigSepL_of_eq [0, 1, 2, 3, 4, 5, 6, 7, 8, 9, 10, 11, 12, 13] (by decide) (by decide) Φ
theorem fin8_sep (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_eq_bigSepL_of_eq [0, 1, 2, 3, 4, 5, 6, 7] (by decide) (by decide) Φ

/-- A memref's elements on device `c`, held whole. -/
abbrev held {sp : Space} {s : Shape} {e : EltTy} (c : Dev nD) (M : Memref sig .tc sp s e) (f : Buf (Elt F) (M.view.loc (c : Thread nD τ))) : sProp 𝕄 :=
  (M.view.loc (c : Thread nD τ) ↦[M.view.set]{fullShare} f)

/-- The row block of device `c`'s result that its step-`s` peer fills (at `s = 7`, its own), with that peer's tile. -/
def landed (c : Dev nD) (s : Fin 8) : sProp 𝕄 :=
  iprop(∃ g : Buf (Elt F) ((c : Thread nD τ).loc main_v1), ⌜(oBlk (src c s.val)).view.read (Elt F) g = tile m (src c s.val) s.val⌝ ∗ held c (oBlk (src c s.val)) g)

theorem landed_intro (c : Dev nD) (k : ℕ) (h) (s : Fin 8) : landPay m c (src c s.val) k h s.val ⊢ landed (F := F) m c s := by
  unfold landed
  iintro H
  iexists ((oBlk (src c s.val)).view.write (Elt F) (m ((c : Thread nD τ).loc main_v1))
    ((sSlot k h).view.read (Elt F) ((sSlot k h).view.write (Elt F) (sSlot k h).view.junk (tile m (src c s.val) s.val) Finset.univ)) Finset.univ)
  isplitr
  · ipureintro
    rw [View.read_write_univ, View.read_write_univ]
  · iexact H

theorem src_own (c : Dev nD) : src c 7 = c := by revert c; decide

theorem landed_own (c : Dev nD) (g : Buf (Elt F) ((c : Thread nD τ).loc main_v1)) (hg : (oBlk c).view.read (Elt F) g = tile m c 7) :
    held c (oBlk c) g ⊢ landed (F := F) m c 7 := by
  unfold landed
  rw [show src c (7 : Fin 8).val = c from src_own c]
  iintro H
  iexists g
  isplitr
  · ipureintro; exact hg
  · iexact H

/-- A cell whose one round is over closes, and its counter is at zero. -/
theorem close_cell (κ : ℕ) (g : GSem nD τ sig) :
    iprop(cellInv ER (sched (F := F) m) κ g ∗ atPos ER g 1 ∅ 0) ⊢ iprop(|={Set.univ}=> semVal g 0) :=
  Rounds.cell_close ER (sched m) (Set.mem_univ κ) (fun h => h) (R := 1) (duties_later m g)

/-- What the body leaves: the arguments as they were, the result's eight row blocks, the scratch buffers' slots at some
    contents, every semaphore at zero, nothing owed. -/
def bodyEnd (c : Dev nD) : sProp 𝕄 :=
  iprop((held c aM (m ((c : Thread nD τ).loc main_arg0)) ∗ held c wM (m ((c : Thread nD τ).loc main_arg1))) ∗ bigSep Finset.univ (landed m c)
    ∗ (∃ f, held c xbM f)
    ∗ ((∃ f, held c (xSlot 0 inb_S2x1024x512_S1x1024x512_0_0_0) f) ∗ ∃ f, held c (xSlot 1 inb_S2x1024x512_S1x1024x512_1_0_0) f)
    ∗ ((∃ f, held c (wSlot 0 inb_S4x2048x512_S1x2048x512_0_0_0) f) ∗ (∃ f, held c (wSlot 1 inb_S4x2048x512_S1x2048x512_1_0_0) f)
      ∗ (∃ f, held c (wSlot 2 inb_S4x2048x512_S1x2048x512_2_0_0) f) ∗ ∃ f, held c (wSlot 3 inb_S4x2048x512_S1x2048x512_3_0_0) f)
    ∗ ((∃ f, held c (sSlot 0 inb_S4x1024x512_S1x1024x512_0_0_0) f) ∗ (∃ f, held c (sSlot 1 inb_S4x1024x512_S1x1024x512_1_0_0) f)
      ∗ (∃ f, held c (sSlot 2 inb_S4x1024x512_S1x1024x512_2_0_0) f) ∗ ∃ f, held c (sSlot 3 inb_S4x1024x512_S1x1024x512_3_0_0) f)
    ∗ (semVal (cell c 0) 0 ∗ semVal (cell c 1) 0 ∗ semVal (cell c 2) 0 ∗ semVal (cell c 3) 0 ∗ semVal (cell c 4) 0 ∗ semVal (cell c 5) 0)
    ∗ (bigSep Finset.univ fun k => semVal ((c : Thread nD τ), xsem k) 0)
    ∗ ∃ W, owes (c : Thread nD τ) (owed c 7) W)

theorem dev1 (c : Dev nD) : (⟨k0_dev1 c, k0_dev1_lt c⟩ : Dev nD) = dst c 0 := Fin.ext (k0_dev1_eq c)
theorem dev2 (c : Dev nD) : (⟨k0_dev2 c, k0_dev2_lt c⟩ : Dev nD) = dst c 1 := Fin.ext (k0_dev2_eq c)
theorem dev3 (c : Dev nD) : (⟨k0_dev3 c, k0_dev3_lt c⟩ : Dev nD) = dst c 2 := Fin.ext (k0_dev3_eq c)
theorem dev4 (c : Dev nD) : (⟨k0_dev4 c, k0_dev4_lt c⟩ : Dev nD) = dst c 3 := Fin.ext (k0_dev4_eq c)
theorem dev5 (c : Dev nD) : (⟨k0_dev5 c, k0_dev5_lt c⟩ : Dev nD) = dst c 4 := Fin.ext (k0_dev5_eq c)
theorem dev6 (c : Dev nD) : (⟨k0_dev6 c, k0_dev6_lt c⟩ : Dev nD) = dst c 5 := Fin.ext (k0_dev6_eq c)
theorem dev7 (c : Dev nD) : (⟨k0_dev7 c, k0_dev7_lt c⟩ : Dev nD) = dst c 6 := Fin.ext (k0_dev7_eq c)

attribute [local sl_rounds] duties_send duties_recv amount_eq expect_send expect_recv payload_send payload_recv src_dst'

set_option maxHeartbeats 4000000 in
theorem run_body (K : Dev nD × Fin 14 → ℕ) (c : Dev nD) (W : Waits sig Unit)
    (fxb : Buf (Elt F) ((c : Thread nD τ).loc cc0_scratch0)) (fxs : Buf (Elt F) ((c : Thread nD τ).loc cc0_scratch1))
    (fwf : Buf (Elt F) ((c : Thread nD τ).loc cc0_scratch2)) (fsb : Buf (Elt F) ((c : Thread nD τ).loc cc0_scratch3))
    (Q : PUnit → sProp 𝕄) (hQ : bodyEnd m c ⊢ Q ⟨⟩) :
    iprop((levAts L lv ∗ bigSep Finset.univ (invs m K c)) ∗ bigSep Finset.univ (share m c)
      ∗ held c aM (m ((c : Thread nD τ).loc main_arg0)) ∗ held c wM (m ((c : Thread nD τ).loc main_arg1)) ∗ held c xbM fxb
      ∗ held c (oBlk c) (m ((c : Thread nD τ).loc main_v1))
      ∗ (held c (xSlot 0 inb_S2x1024x512_S1x1024x512_0_0_0) fxs ∗ held c (xSlot 1 inb_S2x1024x512_S1x1024x512_1_0_0) fxs)
      ∗ (held c (wSlot 0 inb_S4x2048x512_S1x2048x512_0_0_0) fwf ∗ held c (wSlot 1 inb_S4x2048x512_S1x2048x512_1_0_0) fwf
        ∗ held c (wSlot 2 inb_S4x2048x512_S1x2048x512_2_0_0) fwf ∗ held c (wSlot 3 inb_S4x2048x512_S1x2048x512_3_0_0) fwf)
      ∗ (held c (sSlot 0 inb_S4x1024x512_S1x1024x512_0_0_0) fsb ∗ held c (sSlot 1 inb_S4x1024x512_S1x1024x512_1_0_0) fsb
        ∗ held c (sSlot 2 inb_S4x1024x512_S1x1024x512_2_0_0) fsb ∗ held c (sSlot 3 inb_S4x1024x512_S1x1024x512_3_0_0) fsb)
      ∗ (semVal (cell c 0) 0 ∗ semVal (cell c 1) 0 ∗ semVal (cell c 2) 0 ∗ semVal (cell c 3) 0 ∗ semVal (cell c 4) 0 ∗ semVal (cell c 5) 0)
      ∗ owes (c : Thread nD τ) (owed c 0) W)
      ⊢ wp frame (wpE (defs₀ (F := F)) 𝒱₀ c none) Set.univ (bodyAt0 t0_0) Q := by
  have ho0 : owed c 0 = owed c 1 + tallyAt (cell (dst c 0) 14) () N := owed_peel c 0
  have ho1 : owed c 1 = owed c 2 + tallyAt (cell (dst c 1) 15) () N := owed_peel c 1
  have ho2 : owed c 2 = owed c 3 + tallyAt (cell (dst c 2) 16) () N := owed_peel c 2
  have ho3 : owed c 3 = owed c 4 + tallyAt (cell (dst c 3) 17) () N := owed_peel c 3
  have ho4 : owed c 4 = owed c 5 + tallyAt (cell (dst c 4) 18) () N := owed_peel c 4
  have ho5 : owed c 5 = owed c 6 + tallyAt (cell (dst c 5) 19) () N := owed_peel c 5
  have ho6 : owed c 6 = owed c 7 + tallyAt (cell (dst c 6) 20) () N := owed_peel c 6
  have hos := ho0
  rw [ho1, ho2, ho3, ho4, ho5, ho6] at hos
  rw [hos, invs_sep, share_sep]
  unfold invsAt shareAt held
  iintro ⟨⟨#HM, ⟨#Is0, #Ir0, #Ip0, #Rs0, #Rp0⟩, ⟨#Is1, #Ir1, #Ip1, #Rs1, #Rp1⟩, ⟨#Is2, #Ir2, #Ip2, #Rs2, #Rp2⟩, ⟨#Is3, #Ir3, #Ip3, #Rs3, #Rp3⟩,
      ⟨#Is4, #Ir4, #Ip4, #Rs4, #Rp4⟩, ⟨#Is5, #Ir5, #Ip5, #Rs5, #Rp5⟩, ⟨#Is6, #Ir6, #Ip6, #Rs6, #Rp6⟩⟩,
    ⟨⟨As0, Ar0, Ts0, Tr0, C0, P0⟩, ⟨As1, Ar1, Ts1, Tr1, C1, P1⟩, ⟨As2, Ar2, Ts2, Tr2, C2, P2⟩, ⟨As3, Ar3, Ts3, Tr3, C3, P3⟩,
      ⟨As4, Ar4, Ts4, Tr4, C4, P4⟩, ⟨As5, Ar5, Ts5, Tr5, C5, P5⟩, ⟨As6, Ar6, Ts6, Tr6, C6, P6⟩⟩,
    Ha, Hw, Hxb, Hout, ⟨Hxs0, Hxs1⟩, ⟨Hwf0, Hwf1, Hwf2, Hwf3⟩, ⟨Hsb0, Hsb1, Hsb2, Hsb3⟩, ⟨H0, H1, H2, H3, H4, H5⟩, HO⟩
  have hxSlot0 := xSlot_sub 0 inb_S2x1024x512_S1x1024x512_0_0_0
  have hxSlot1 := xSlot_sub 1 inb_S2x1024x512_S1x1024x512_1_0_0
  have hwSlot0 := wSlot_sub 0 inb_S4x2048x512_S1x2048x512_0_0_0
  have hwSlot1 := wSlot_sub 1 inb_S4x2048x512_S1x2048x512_1_0_0
  have hwSlot2 := wSlot_sub 2 inb_S4x2048x512_S1x2048x512_2_0_0
  have hwSlot3 := wSlot_sub 3 inb_S4x2048x512_S1x2048x512_3_0_0
  have hsSlot0 := sSlot_sub 0 inb_S4x1024x512_S1x1024x512_0_0_0
  have hsSlot1 := sSlot_sub 1 inb_S4x1024x512_S1x1024x512_1_0_0
  have hsSlot2 := sSlot_sub 2 inb_S4x1024x512_S1x1024x512_2_0_0
  have hsSlot3 := sSlot_sub 3 inb_S4x1024x512_S1x1024x512_3_0_0
  have hd1 := dev1 c
  have hd2 := dev2 c
  have hd3 := dev3 c
  have hd4 := dev4 c
  have hd5 := dev5 c
  have hd6 := dev6 c
  have hd7 := dev7 c
  have hS0 : (levAts L lv : sProp 𝕄) ⊢ MayWait (c : Thread nD τ) (.dma ⟨6, by decide⟩) () (owed c 7) := mayWait_local c 6 _ (by decide) 7
  have hS1 : (levAts L lv : sProp 𝕄) ⊢ MayWait (c : Thread nD τ) (.dma ⟨7, by decide⟩) () (owed c 7) := mayWait_local c 7 _ (by decide) 7
  have hS2 : (levAts L lv : sProp 𝕄) ⊢ MayWait (c : Thread nD τ) (.dma ⟨8, by decide⟩) () (owed c 7) := mayWait_local c 8 _ (by decide) 7
  have hS3 : (levAts L lv : sProp 𝕄) ⊢ MayWait (c : Thread nD τ) (.dma ⟨9, by decide⟩) () (owed c 7) := mayWait_local c 9 _ (by decide) 7
  have hS4 : (levAts L lv : sProp 𝕄) ⊢ MayWait (c : Thread nD τ) (.dma ⟨10, by decide⟩) () (owed c 7) := mayWait_local c 10 _ (by decide) 7
  have hS5 : (levAts L lv : sProp 𝕄) ⊢ MayWait (c : Thread nD τ) (.dma ⟨11, by decide⟩) () (owed c 7) := mayWait_local c 11 _ (by decide) 7
  have hS6 : (levAts L lv : sProp 𝕄) ⊢ MayWait (c : Thread nD τ) (.dma ⟨12, by decide⟩) () (owed c 7) := mayWait_local c 12 _ (by decide) 7
  have hR0 : (levAts L lv : sProp 𝕄) ⊢ MayWait (c : Thread nD τ) (.dma ⟨14, by decide⟩) () (owed c 7) := mayWait_end c 14 _
  have hR1 : (levAts L lv : sProp 𝕄) ⊢ MayWait (c : Thread nD τ) (.dma ⟨15, by decide⟩) () (owed c 7) := mayWait_end c 15 _
  have hR2 : (levAts L lv : sProp 𝕄) ⊢ MayWait (c : Thread nD τ) (.dma ⟨16, by decide⟩) () (owed c 7) := mayWait_end c 16 _
  have hR3 : (levAts L lv : sProp 𝕄) ⊢ MayWait (c : Thread nD τ) (.dma ⟨17, by decide⟩) () (owed c 7) := mayWait_end c 17 _
  have hR4 : (levAts L lv : sProp 𝕄) ⊢ MayWait (c : Thread nD τ) (.dma ⟨18, by decide⟩) () (owed c 7) := mayWait_end c 18 _
  have hR5 : (levAts L lv : sProp 𝕄) ⊢ MayWait (c : Thread nD τ) (.dma ⟨19, by decide⟩) () (owed c 7) := mayWait_end c 19 _
  have hR6 : (levAts L lv : sProp 𝕄) ⊢ MayWait (c : Thread nD τ) (.dma ⟨20, by decide⟩) () (owed c 7) := mayWait_end c 20 _
  have hW : ∀ (j : ℕ) (k : ℕ) (h : k < 22) (_ : k < 14), (levAts L lv : sProp 𝕄) ⊢ MayWait (c : Thread nD τ) (.dma ⟨k, h⟩) () (owed c j) :=
    fun j k h hk => mayWait_local c k h hk j
  have hW0 := hW 0
  have hW1 := hW 1
  have hW2 := hW 2
  have hW3 := hW 3
  have hW4 := hW 4
  have hW5 := hW 5
  have hW6 := hW 6
  have hW7 := hW 7
  rw [ho0, ho1, ho2, ho3, ho4, ho5, ho6] at hW0
  rw [ho1, ho2, ho3, ho4, ho5, ho6] at hW1
  rw [ho2, ho3, ho4, ho5, ho6] at hW2
  rw [ho3, ho4, ho5, ho6] at hW3
  rw [ho4, ho5, ho6] at hW4
  rw [ho5, ho6] at hW5
  rw [ho6] at hW6
  clear hW hos ho0 ho1 ho2 ho3 ho4 ho5 ho6
  unfold bodyAt0; rw [cc0_body_eq_skeleton]; unfold cc0_body_skel
  sl_exec_parts
  have hA4 : Agrees m c 4 (run_body.sl.Hxb_4 m c) :=
    agrees_chunk m c 3 _ _ _ _ _ _ _ (agrees_chunk m c 2 _ _ _ _ _ _ _ (agrees_chunk m c 1 _ _ _ _ _ _ _ (agrees_chunk m c 0 _ _ _ _ _ _ _ (agrees_nil m c))))
  have hA8 : Agrees m c 8 (run_body.sl.Hxb_8 m c) :=
    agrees_chunk m c 7 _ _ _ _ _ _ _ (agrees_chunk m c 6 _ _ _ _ _ _ _ (agrees_chunk m c 5 _ _ _ _ _ _ _ (agrees_chunk m c 4 _ _ _ _ _ _ _ hA4)))
  have hA12 : Agrees m c 12 (run_body.sl.Hxb_12 m c) :=
    agrees_chunk m c 11 _ _ _ _ _ _ _ (agrees_chunk m c 10 _ _ _ _ _ _ _ (agrees_chunk m c 9 _ _ _ _ _ _ _ (agrees_chunk m c 8 _ _ _ _ _ _ _ hA8)))
  have hA16 : Agrees m c 16 (run_body.sl.Hxb_16 m c) :=
    agrees_chunk m c 15 _ _ _ _ _ _ _ (agrees_chunk m c 14 _ _ _ _ _ _ _ (agrees_chunk m c 13 _ _ _ _ _ _ _ (agrees_chunk m c 12 _ _ _ _ _ _ _ hA12)))
  ihave Hsb0 := (slot_tile m c 0 0 inb_S4x1024x512_S1x1024x512_0_0_0 fsb (run_body.sl.Hsb0_w1 m c fsb) (k0_pay24 (run_body.sl.r_6 m c)) (run_body.sl.v122 m c) (run_body.sl.v209 m c) (run_body.sl.v297 m c) (run_body.sl.v375 m c)
    (run_body.sl.v123 m c) (run_body.sl.v210 m c) (run_body.sl.v298 m c) (run_body.sl.v376 m c) rfl rfl
    (xload_part m c 0 4 (by decide) _ _ hA4) (wload_part m c 0 0 _ _ _ _ _ _ (k0_off1_eq c 0))
    (xload_part m c 1 8 (by decide) _ _ hA8) (wload_part m c 0 1 _ _ _ _ _ _ (k0_off2_eq c 0))
    (xload_part m c 2 12 (by decide) _ _ hA12) (wload_part m c 0 2 _ _ _ _ _ _ (k0_off3_eq c 0))
    (xload_part m c 3 16 (by decide) _ _ hA16) (wload_part m c 0 3 _ _ _ _ _ _ (k0_off4_eq c 0))) $$ Hsb0
  have hx0 := xload_part m c 0 16 (by decide) xbM.view.junk _ hA16
  have hx1 := xload_part m c 1 16 (by decide) xbM.view.junk _ hA16
  have hx2 := xload_part m c 2 16 (by decide) xbM.view.junk _ hA16
  have hx3 := xload_part m c 3 16 (by decide) xbM.view.junk _ hA16
  sl_exec_parts
  ihave Hsb1 := (slot_tile m c 1 1 inb_S4x1024x512_S1x1024x512_1_0_0 _ (run_body.sl.Hsb1_w1 m c fsb) (run_body.sl.v500 m c)
    (xPart m c 0) (xPart m c 1) (xPart m c 2) (xPart m c 3) (run_body.sl.v419 m c) (run_body.sl.v442 m c) (run_body.sl.v466 m c) (run_body.sl.v490 m c) rfl rfl
    rfl (wload_part m c 1 0 _ _ _ _ _ _ (k0_off1_eq c 1)) rfl (wload_part m c 1 1 _ _ _ _ _ _ (k0_off2_eq c 1))
    rfl (wload_part m c 1 2 _ _ _ _ _ _ (k0_off3_eq c 1)) rfl (wload_part m c 1 3 _ _ _ _ _ _ (k0_off4_eq c 1))) $$ Hsb1
  sl_exec_parts
  ihave Hsb2 := (slot_tile m c 2 2 inb_S4x1024x512_S1x1024x512_2_0_0 _ (run_body.sl.Hsb2_w1 m c fsb) (k0_pay32 (run_body.sl.r_14 m c) (xPart m c 3) (run_body.sl.v604 m c))
    (xPart m c 0) (xPart m c 1) (xPart m c 2) (xPart m c 3) (run_body.sl.v533 m c) (run_body.sl.v556 m c) (run_body.sl.v580 m c) (run_body.sl.v604 m c) rfl rfl
    rfl (wload_part m c 2 0 _ _ _ _ _ _ (k0_off1_eq c 2)) rfl (wload_part m c 2 1 _ _ _ _ _ _ (k0_off2_eq c 2))
    rfl (wload_part m c 2 2 _ _ _ _ _ _ (k0_off3_eq c 2)) rfl (wload_part m c 2 3 _ _ _ _ _ _ (k0_off4_eq c 2))) $$ Hsb2
  sl_exec_parts
  ihave Hsb3 := (slot_tile m c 3 3 inb_S4x1024x512_S1x1024x512_3_0_0 _ (run_body.sl.Hsb3_w1 m c fsb) (k0_pay36 (run_body.sl.r_18 m c) (xPart m c 3) (run_body.sl.v718 m c))
    (xPart m c 0) (xPart m c 1) (xPart m c 2) (xPart m c 3) (run_body.sl.v647 m c) (run_body.sl.v670 m c) (run_body.sl.v694 m c) (run_body.sl.v718 m c) rfl rfl
    rfl (wload_part m c 3 0 _ _ _ _ _ _ (k0_off1_eq c 3)) rfl (wload_part m c 3 1 _ _ _ _ _ _ (k0_off2_eq c 3))
    rfl (wload_part m c 3 2 _ _ _ _ _ _ (k0_off3_eq c 3)) rfl (wload_part m c 3 3 _ _ _ _ _ _ (k0_off4_eq c 3))) $$ Hsb3
  sl_exec_parts
  ihave As0_pay1 := (slot_tile m c 4 0 inb_S4x1024x512_S1x1024x512_0_0_0 _ (run_body.sl.As0_pay1_w1 m c) (run_body.sl.v851 m c)
    (xPart m c 0) (xPart m c 1) (xPart m c 2) (xPart m c 3) (run_body.sl.v761 m c) (run_body.sl.v784 m c) (run_body.sl.v808 m c) (run_body.sl.v832 m c) rfl rfl
    rfl (wload_part m c 4 0 _ _ _ _ _ _ (k0_off1_eq c 4)) rfl (wload_part m c 4 1 _ _ _ _ _ _ (k0_off2_eq c 4))
    rfl (wload_part m c 4 2 _ _ _ _ _ _ (k0_off3_eq c 4)) rfl (wload_part m c 4 3 _ _ _ _ _ _ (k0_off4_eq c 4))) $$ As0_pay1
  sl_exec_parts
  ihave As1_pay1 := (slot_tile m c 5 1 inb_S4x1024x512_S1x1024x512_1_0_0 _ (run_body.sl.As1_pay1_w1 m c) (run_body.sl.v974 m c)
    (xPart m c 0) (xPart m c 1) (xPart m c 2) (xPart m c 3) (run_body.sl.v884 m c) (run_body.sl.v907 m c) (run_body.sl.v931 m c) (run_body.sl.v955 m c) rfl rfl
    rfl (wload_part m c 5 0 _ _ _ _ _ _ (k0_off1_eq c 5)) rfl (wload_part m c 5 1 _ _ _ _ _ _ (k0_off2_eq c 5))
    rfl (wload_part m c 5 2 _ _ _ _ _ _ (k0_off3_eq c 5)) rfl (wload_part m c 5 3 _ _ _ _ _ _ (k0_off4_eq c 5))) $$ As1_pay1
  sl_exec_parts
  ihave As2_pay1 := (slot_tile m c 6 2 inb_S4x1024x512_S1x1024x512_2_0_0 _ (run_body.sl.As2_pay1_w1 m c) (k0_pay49 (run_body.sl.r_30 m c) (xPart m c 3) (run_body.sl.v1078 m c))
    (xPart m c 0) (xPart m c 1) (xPart m c 2) (xPart m c 3) (run_body.sl.v1007 m c) (run_body.sl.v1030 m c) (run_body.sl.v1054 m c) (run_body.sl.v1078 m c) rfl rfl
    rfl (wload_part m c 6 0 _ _ _ _ _ _ (k0_off1_eq c 6)) rfl (wload_part m c 6 1 _ _ _ _ _ _ (k0_off2_eq c 6))
    rfl (wload_part m c 6 2 _ _ _ _ _ _ (k0_off3_eq c 6)) rfl (wload_part m c 6 3 _ _ _ _ _ _ (k0_off4_eq c 6))) $$ As2_pay1
  sl_exec_parts
  have hown := slot_tile_read m c 7 3 inb_S4x1024x512_S1x1024x512_3_0_0 _ (run_body.sl.As3_pay1_w1 m c) (k0_pay52 (run_body.sl.r_32 m c) (xPart m c 3) (run_body.sl.v1174 m c))
    (xPart m c 0) (xPart m c 1) (xPart m c 2) (xPart m c 3) (run_body.sl.v1130 m c) (run_body.sl.v1144 m c) (run_body.sl.v1159 m c) (run_body.sl.v1174 m c) rfl rfl
    rfl (wload_part m c 7 0 _ _ _ _ _ _ (k0_off1_eq c 7)) rfl (wload_part m c 7 1 _ _ _ _ _ _ (k0_off2_eq c 7))
    rfl (wload_part m c 7 2 _ _ _ _ _ _ (k0_off3_eq c 7)) rfl (wload_part m c 7 3 _ _ _ _ _ _ (k0_off4_eq c 7))
  ihave Hown := (landed_own m c _ ((block_read c _ (run_body.sl.dma10 m c)).trans hown)) $$ Hout
  have hl0 : landPay m c (src c 0) 0 (sInb 0) 0 ⊢ landed (F := F) m c 0 := landed_intro m c 0 (sInb 0) 0
  ihave Hl0 := hl0 $$ Ar0_pay1
  have hl1 : landPay m c (src c 1) 1 (sInb 1) 1 ⊢ landed (F := F) m c 1 := landed_intro m c 1 (sInb 1) 1
  ihave Hl1 := hl1 $$ Ar1_pay1
  have hl2 : landPay m c (src c 2) 2 (sInb 2) 2 ⊢ landed (F := F) m c 2 := landed_intro m c 2 (sInb 2) 2
  ihave Hl2 := hl2 $$ Ar2_pay1
  have hl3 : landPay m c (src c 3) 3 (sInb 3) 3 ⊢ landed (F := F) m c 3 := landed_intro m c 3 (sInb 3) 3
  ihave Hl3 := hl3 $$ Ar3_pay1
  have hl4 : landPay m c (src c 4) 0 (sInb 4) 4 ⊢ landed (F := F) m c 4 := landed_intro m c 0 (sInb 4) 4
  ihave Hl4 := hl4 $$ Ar4_pay1
  have hl5 : landPay m c (src c 5) 1 (sInb 5) 5 ⊢ landed (F := F) m c 5 := landed_intro m c 1 (sInb 5) 5
  ihave Hl5 := hl5 $$ Ar5_pay1
  have hl6 : landPay m c (src c 6) 2 (sInb 6) 6 ⊢ landed (F := F) m c 6 := landed_intro m c 2 (sInb 6) 6
  ihave Hl6 := hl6 $$ Ar6_pay1
  rw [wp_ret]
  imod (close_cell m _ _) $$ [As0] with Zs0
  · isplitr; · iexact Is0
    iexact As0
  imod (close_cell m _ _) $$ [Ar0] with Zr0
  · isplitr; · iexact Ir0
    iexact Ar0
  imod (close_cell m _ _) $$ [As1] with Zs1
  · isplitr; · iexact Is1
    iexact As1
  imod (close_cell m _ _) $$ [Ar1] with Zr1
  · isplitr; · iexact Ir1
    iexact Ar1
  imod (close_cell m _ _) $$ [As2] with Zs2
  · isplitr; · iexact Is2
    iexact As2
  imod (close_cell m _ _) $$ [Ar2] with Zr2
  · isplitr; · iexact Ir2
    iexact Ar2
  imod (close_cell m _ _) $$ [As3] with Zs3
  · isplitr; · iexact Is3
    iexact As3
  imod (close_cell m _ _) $$ [Ar3] with Zr3
  · isplitr; · iexact Ir3
    iexact Ar3
  imod (close_cell m _ _) $$ [As4] with Zs4
  · isplitr; · iexact Is4
    iexact As4
  imod (close_cell m _ _) $$ [Ar4] with Zr4
  · isplitr; · iexact Ir4
    iexact Ar4
  imod (close_cell m _ _) $$ [As5] with Zs5
  · isplitr; · iexact Is5
    iexact As5
  imod (close_cell m _ _) $$ [Ar5] with Zr5
  · isplitr; · iexact Ir5
    iexact Ar5
  imod (close_cell m _ _) $$ [As6] with Zs6
  · isplitr; · iexact Is6
    iexact As6
  imod (close_cell m _ _) $$ [Ar6] with Zr6
  · isplitr; · iexact Ir6
    iexact Ar6
  imodintro
  iapply hQ
  unfold bodyEnd held
  rw [fin14_sep, fin8_sep]
  isplitl [Ha Hw]; · isplitl [Ha] <;> iassumption
  isplitl [Hl0 Hl1 Hl2 Hl3 Hl4 Hl5 Hl6 Hown]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6] <;> iassumption
  isplitl [Hxb]; · iexists _; iexact Hxb
  isplitl [Hxs0 Hxs1]
  · isplitl [Hxs0]; · iexists _; iexact Hxs0
    iexists _; iexact Hxs1
  isplitl [Hwf0 Hwf1 Hwf2 Hwf3]
  · isplitl [Hwf0]; · iexists _; iexact Hwf0
    isplitl [Hwf1]; · iexists _; iexact Hwf1
    isplitl [Hwf2]; · iexists _; iexact Hwf2
    iexists _; iexact Hwf3
  isplitl [As4_pay1 As5_pay1 As6_pay1 As3_pay1]
  · isplitl [As4_pay1]; · iexists _; iexact As4_pay1
    isplitl [As5_pay1]; · iexists _; iexact As5_pay1
    isplitl [As6_pay1]; · iexists _; iexact As6_pay1
    iexists _; iexact As3_pay1
  isplitl [H0 H1 H2 H3 H4 H5]
  · isplitl [H0]; · iexact H0
    isplitl [H1]; · iexact H1
    isplitl [H2]; · iexact H2
    isplitl [H3]; · iexact H3
    isplitl [H4] <;> iassumption
  isplitr [HO]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    iexact Zr6
  · iexists _; iexact HO

end Cert.Proof

end
-- ==== Proof.Pieces.lean ====
module

public import proofs.«01_k».proof.Proof.Body
public import proofs.«01_k».proof.Proof.Gen.KernelIdeal.Launch
public import Idealize.ShloMosaic.Lib.Ring.AtN

/-!
Buffers held piece by piece: the result array as its eight row blocks, in the order in which a device's peers fill them, and
the scratch buffers as their slots.
-/

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- A whole buffer, held through the memref of all of it. -/
theorem held_whole (c : Dev nD) (b : Ref sig .tc) (f : Buf (Elt F) ((c : Thread nD τ).loc b)) :
    (held c (Memref.whole b) f : sProp 𝕄) = (((c : Thread nD τ).loc b) ↦{fullShare} f) := by
  show ((c : Thread nD τ).loc b ↦[(View.whole b).set]{fullShare} f : sProp 𝕄) = _
  rw [View.set_whole]

/-! ## The result's row blocks -/

theorem oBlk_set (d : Dev nD) : (oBlk d).view.set = (Rect.unit (s := S8192x512) (k0_off5 d) S1024x512.size (k0_off5_inb d)).set :=
  View.set_slice_whole _ _

theorem oBlk_disjoint (d d' : Dev nD) (h : d ≠ d') : Disjoint (oBlk d).view.set (oBlk d').view.set := by
  rw [oBlk_set, oBlk_set]
  exact Ring.lead_disjoint (s := S8192x512) (NB := 8) 0 1024 (fun b : Fin 8 => k0_off5 b) S1024x512.size (fun b => k0_off5_inb b)
    (fun b => by rw [k0_off5_eq]; rfl) rfl d d' h

/-- The same set of elements, as one of the whole array's. -/
abbrev blkSet (d : Dev nD) : Finset S8192x512.Idx := (oBlk d).view.set

theorem oBlk_cover : (Finset.univ.biUnion fun d : Dev nD => blkSet d) = Finset.univ := by
  rw [show (fun d : Dev nD => blkSet d) = fun d : Dev nD => (Rect.unit (s := S8192x512) (k0_off5 d) S1024x512.size (k0_off5_inb d)).set
    from funext oBlk_set]
  exact Ring.lead_cover (s := S8192x512) (NB := 8) 0 1024 (fun b : Fin 8 => k0_off5 b) S1024x512.size (fun b => k0_off5_inb b)
    (fun b => by rw [k0_off5_eq]; rfl)
    (fun b a ha => by
      rw [k0_off5_eq]
      obtain ⟨a, h⟩ := a
      match a, h with
      | 0, _ => exact absurd rfl ha
      | 1, _ => rfl)
    rfl
    (fun a ha => by
      obtain ⟨a, h⟩ := a
      match a, h with
      | 0, _ => exact absurd rfl ha
      | 1, _ => rfl)
    rfl

/-- The devices, counted backwards from device `c`'s own predecessor: `c` itself comes last. -/
def backwards (c : Dev nD) : Fin 8 ≃ Dev nD where
  toFun s := src c s.val
  invFun d := ⟨(c.val + 7 - d.val) % 8, Nat.mod_lt _ (by decide)⟩
  left_inv s := by revert c s; decide
  right_inv d := by revert c d; decide

/-- The result array is its row blocks, each named by the step in which it is filled. -/
theorem result_blocks (c : Dev nD) (f : Buf (Elt F) ((c : Thread nD τ).loc main_v1)) :
    ((((c : Thread nD τ).loc main_v1) ↦{fullShare} f) : sProp 𝕄) = bigSep Finset.univ fun s : Fin 8 => held c (oBlk (src c s.val)) f := by
  rw [Ring.pointsTo_blocks (ℓ := (c : Thread nD τ).loc main_v1) (fun d : Dev nD => (oBlk d).view.set) oBlk_disjoint oBlk_cover f,
    BI.bigSep_univ_equiv (backwards c)]
  rfl

/-- The blocks the peers fill, and the device's own. -/
theorem result_split (c : Dev nD) (f : Buf (Elt F) ((c : Thread nD τ).loc main_v1)) :
    ((((c : Thread nD τ).loc main_v1) ↦{fullShare} f) : sProp 𝕄)
      ⊢ iprop((bigSep Finset.univ fun s : Fin 7 => held c (oBlk (src c s.val)) f) ∗ held c (oBlk c) f) := by
  rw [result_blocks, fin8_sep, fin7_sep]
  have h7 : held c (oBlk (src c (7 : Fin 8).val)) f ⊢ (held c (oBlk c) f : sProp 𝕄) := by
    rw [show src c (7 : Fin 8).val = c from src_own c]
  iintro ⟨H0, H1, H2, H3, H4, H5, H6, H7⟩
  isplitr [H7]
  · isplitl [H0]; · iexact H0
    isplitl [H1]; · iexact H1
    isplitl [H2]; · iexact H2
    isplitl [H3]; · iexact H3
    isplitl [H4]; · iexact H4
    isplitl [H5]; · iexact H5
    iexact H6
  · iapply h7; iexact H7

/-! ## The scratch buffers' slots -/

theorem bigSep_fin2 (Φ : Fin 2 → sProp 𝕄) : bigSep Finset.univ Φ = iprop(Φ 0 ∗ Φ 1) :=
  bigSep_eq_bigSepL_of_eq [0, 1] (by decide) (by decide) Φ
theorem bigSep_fin4 (Φ : Fin 4 → sProp 𝕄) : bigSep Finset.univ Φ = iprop(Φ 0 ∗ Φ 1 ∗ Φ 2 ∗ Φ 3) :=
  bigSep_eq_bigSepL_of_eq [0, 1, 2, 3] (by decide) (by decide) Φ

section Slots

variable {n R C : ℕ}

/-- The offsets of slot `k` in a buffer of `n` slots. -/
theorem slot_inb (hn : ∀ k : Fin n, ∀ a, (![k.val, 0, 0] : Fin 3 → ℕ) a + (![1, R, C] : Fin 3 → ℕ) a ≤ (![n, R, C] : Fin 3 → ℕ) a) (k k' : Fin n) (h : k ≠ k') :
    Disjoint (Rect.unit (s := ⟨3, ![n, R, C]⟩) ![k.val, 0, 0] ![1, R, C] (hn k)).set
      (Rect.unit (s := ⟨3, ![n, R, C]⟩) ![k'.val, 0, 0] ![1, R, C] (hn k')).set :=
  Ring.lead_disjoint (s := ⟨3, ![n, R, C]⟩) (NB := n) (0 : Fin 3) 1 (fun k : Fin n => ![k.val, 0, 0]) ![1, R, C] hn
    (fun k => (Nat.one_mul k.val).symm) rfl k k' h

theorem slot_cover (hn : ∀ k : Fin n, ∀ a, (![k.val, 0, 0] : Fin 3 → ℕ) a + (![1, R, C] : Fin 3 → ℕ) a ≤ (![n, R, C] : Fin 3 → ℕ) a) :
    (Finset.univ.biUnion fun k : Fin n => (Rect.unit (s := ⟨3, ![n, R, C]⟩) ![k.val, 0, 0] ![1, R, C] (hn k)).set) = Finset.univ :=
  Ring.lead_cover (s := ⟨3, ![n, R, C]⟩) (NB := n) (0 : Fin 3) 1 (fun k : Fin n => ![k.val, 0, 0]) ![1, R, C] hn
    (fun k => (Nat.one_mul k.val).symm)
    (fun k a ha => by
      match a, ha with
      | 0, ha => exact absurd rfl ha
      | 1, _ => rfl
      | 2, _ => rfl)
    rfl
    (fun a ha => by
      match a, ha with
      | 0, ha => exact absurd rfl ha
      | 1, _ => rfl
      | 2, _ => rfl)
    (Nat.mul_one n)

end Slots

theorem xInb (k : Fin 2) : ∀ a, (![k.val, 0, 0] : Fin 3 → ℕ) a + S1x1024x512.size a ≤ S2x1024x512.size a := by revert k; decide
theorem wInb (k : Fin 4) : ∀ a, (![k.val, 0, 0] : Fin 3 → ℕ) a + S1x2048x512.size a ≤ S4x2048x512.size a := by revert k; decide
theorem tInb (k : Fin 4) : ∀ a, (![k.val, 0, 0] : Fin 3 → ℕ) a + S1x1024x512.size a ≤ S4x1024x512.size a := by revert k; decide

theorem xSlot_set (k : ℕ) (h) : (xSlot k h).view.set = (Rect.unit (s := S2x1024x512) ![k, 0, 0] S1x1024x512.size h).set :=
  (View.set_reshape _ _).trans (View.set_slice_whole _ _)
theorem wSlot_set (k : ℕ) (h) : (wSlot k h).view.set = (Rect.unit (s := S4x2048x512) ![k, 0, 0] S1x2048x512.size h).set :=
  (View.set_reshape _ _).trans (View.set_slice_whole _ _)
theorem sSlot_set (k : ℕ) (h) : (sSlot k h).view.set = (Rect.unit (s := S4x1024x512) ![k, 0, 0] S1x1024x512.size h).set :=
  (View.set_reshape _ _).trans (View.set_slice_whole _ _)

theorem xSlot_disjoint (k k' : Fin 2) (h : k ≠ k') : Disjoint (xSlot k.val (xInb k)).view.set (xSlot k'.val (xInb k')).view.set := by
  rw [xSlot_set, xSlot_set]; exact slot_inb xInb k k' h
theorem wSlot_disjoint (k k' : Fin 4) (h : k ≠ k') : Disjoint (wSlot k.val (wInb k)).view.set (wSlot k'.val (wInb k')).view.set := by
  rw [wSlot_set, wSlot_set]; exact slot_inb wInb k k' h
theorem sSlot_disjoint (k k' : Fin 4) (h : k ≠ k') : Disjoint (sSlot k.val (tInb k)).view.set (sSlot k'.val (tInb k')).view.set := by
  rw [sSlot_set, sSlot_set]; exact slot_inb tInb k k' h

/-- The slots' sets of elements, as ones of the whole buffers'. -/
abbrev xSet (k : Fin 2) : Finset S2x1024x512.Idx := (xSlot k.val (xInb k)).view.set
abbrev wSet (k : Fin 4) : Finset S4x2048x512.Idx := (wSlot k.val (wInb k)).view.set
abbrev tSet (k : Fin 4) : Finset S4x1024x512.Idx := (sSlot k.val (tInb k)).view.set

theorem xSlot_cover : (Finset.univ.biUnion fun k : Fin 2 => xSet k) = Finset.univ := by
  rw [show (fun k : Fin 2 => xSet k) = _ from funext fun k => xSlot_set k.val (xInb k)]; exact slot_cover xInb
theorem wSlot_cover : (Finset.univ.biUnion fun k : Fin 4 => wSet k) = Finset.univ := by
  rw [show (fun k : Fin 4 => wSet k) = _ from funext fun k => wSlot_set k.val (wInb k)]; exact slot_cover wInb
theorem sSlot_cover : (Finset.univ.biUnion fun k : Fin 4 => tSet k) = Finset.univ := by
  rw [show (fun k : Fin 4 => tSet k) = _ from funext fun k => sSlot_set k.val (tInb k)]; exact slot_cover tInb

theorem xs_split (c : Dev nD) (f : Buf (Elt F) ((c : Thread nD τ).loc cc0_scratch1)) :
    ((((c : Thread nD τ).loc cc0_scratch1) ↦{fullShare} f) : sProp 𝕄)
      ⊢ iprop(held c (xSlot 0 inb_S2x1024x512_S1x1024x512_0_0_0) f ∗ held c (xSlot 1 inb_S2x1024x512_S1x1024x512_1_0_0) f) :=
  Entails.of_eq ((Ring.pointsTo_blocks (ℓ := (c : Thread nD τ).loc cc0_scratch1) _ xSlot_disjoint xSlot_cover f).trans (bigSep_fin2 _))

theorem wf_split (c : Dev nD) (f : Buf (Elt F) ((c : Thread nD τ).loc cc0_scratch2)) :
    ((((c : Thread nD τ).loc cc0_scratch2) ↦{fullShare} f) : sProp 𝕄)
      ⊢ iprop(held c (wSlot 0 inb_S4x2048x512_S1x2048x512_0_0_0) f ∗ held c (wSlot 1 inb_S4x2048x512_S1x2048x512_1_0_0) f
        ∗ held c (wSlot 2 inb_S4x2048x512_S1x2048x512_2_0_0) f ∗ held c (wSlot 3 inb_S4x2048x512_S1x2048x512_3_0_0) f) :=
  Entails.of_eq ((Ring.pointsTo_blocks (ℓ := (c : Thread nD τ).loc cc0_scratch2) _ wSlot_disjoint wSlot_cover f).trans (bigSep_fin4 _))

theorem sb_split (c : Dev nD) (f : Buf (Elt F) ((c : Thread nD τ).loc cc0_scratch3)) :
    ((((c : Thread nD τ).loc cc0_scratch3) ↦{fullShare} f) : sProp 𝕄)
      ⊢ iprop(held c (sSlot 0 inb_S4x1024x512_S1x1024x512_0_0_0) f ∗ held c (sSlot 1 inb_S4x1024x512_S1x1024x512_1_0_0) f
        ∗ held c (sSlot 2 inb_S4x1024x512_S1x1024x512_2_0_0) f ∗ held c (sSlot 3 inb_S4x1024x512_S1x1024x512_3_0_0) f) :=
  Entails.of_eq ((Ring.pointsTo_blocks (ℓ := (c : Thread nD τ).loc cc0_scratch3) _ sSlot_disjoint sSlot_cover f).trans (bigSep_fin4 _))

theorem xs_join (c : Dev nD) :
    iprop((∃ f, held c (xSlot 0 inb_S2x1024x512_S1x1024x512_0_0_0) f) ∗ ∃ f, held c (xSlot 1 inb_S2x1024x512_S1x1024x512_1_0_0) f)
      ⊢ (iprop(∃ f : Buf (Elt F) ((c : Thread nD τ).loc cc0_scratch1), ((c : Thread nD τ).loc cc0_scratch1) ↦{fullShare} f) : sProp 𝕄) :=
  Ring.slots2_join (ℓ := (c : Thread nD τ).loc cc0_scratch1) (xSet) xSlot_disjoint xSlot_cover _ _
    (fun _ => rfl) (fun _ => rfl)

theorem wf_join (c : Dev nD) :
    iprop((∃ f, held c (wSlot 0 inb_S4x2048x512_S1x2048x512_0_0_0) f) ∗ (∃ f, held c (wSlot 1 inb_S4x2048x512_S1x2048x512_1_0_0) f)
        ∗ (∃ f, held c (wSlot 2 inb_S4x2048x512_S1x2048x512_2_0_0) f) ∗ ∃ f, held c (wSlot 3 inb_S4x2048x512_S1x2048x512_3_0_0) f)
      ⊢ (iprop(∃ f : Buf (Elt F) ((c : Thread nD τ).loc cc0_scratch2), ((c : Thread nD τ).loc cc0_scratch2) ↦{fullShare} f) : sProp 𝕄) :=
  Ring.slots4_join (ℓ := (c : Thread nD τ).loc cc0_scratch2) (wSet) wSlot_disjoint wSlot_cover _ _ _ _
    (fun _ => rfl) (fun _ => rfl) (fun _ => rfl) (fun _ => rfl)

theorem sb_join (c : Dev nD) :
    iprop((∃ f, held c (sSlot 0 inb_S4x1024x512_S1x1024x512_0_0_0) f) ∗ (∃ f, held c (sSlot 1 inb_S4x1024x512_S1x1024x512_1_0_0) f)
        ∗ (∃ f, held c (sSlot 2 inb_S4x1024x512_S1x1024x512_2_0_0) f) ∗ ∃ f, held c (sSlot 3 inb_S4x1024x512_S1x1024x512_3_0_0) f)
      ⊢ (iprop(∃ f : Buf (Elt F) ((c : Thread nD τ).loc cc0_scratch3), ((c : Thread nD τ).loc cc0_scratch3) ↦{fullShare} f) : sProp 𝕄) :=
  Ring.slots4_join (ℓ := (c : Thread nD τ).loc cc0_scratch3) (tSet) sSlot_disjoint sSlot_cover _ _ _ _
    (fun _ => rfl) (fun _ => rfl) (fun _ => rfl) (fun _ => rfl)

end Cert.Proof

end
-- ==== Proof.Launch.lean ====
/-
  The launch of the eight devices. The library's launch theorem for one region hands its step for all devices at once the
  semaphores alone; here every device writes a row block of every other device's result, so that step must have all the
  devices' result arrays too, to deal each row block to the device that writes it. The theorem below is that launch, for
  this kernel: one region, no window, no prefetched table.
-/
module

public import proofs.«01_k».proof.Proof.Sched
public import proofs.«01_k».proof.Proof.Gen.KernelIdeal.Launch
public import Idealize.ShloMosaic.Lib.Quiescent

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- Every DMA semaphore is the kernel's own. -/
abbrev osem (k : Fin 22) : SemLoc sig := .dma k
theorem ownSemFacts : Pipeline.OwnSemFacts cfg0.spec osem := by decide

/-- The printed configurations read as ones with no prefetched table, and their one choice of tables. -/
abbrev pcs : Fin 1 → Pipeline.PCfg sig Λ₀ (Elt F) := fun p => (cfgs p).toPCfg
abbrev adm : (p : Fin 1) → (pcs (F := F) p).Adm := fun p => (cfgs p).toPCfg_adm

/-- The levels of all cells, assigned at once. -/
theorem levels_all : (bigSep Finset.univ fun c : Dev nD => levels0 (Ix := Unit) (Val := Elt F) (Name := ℕ) (U := UU) (Lvl := ℕ) (τ := τ) (sig := sig) c)
    ⊢ (|==> levAts L lv : sProp 𝕄) := by
  classical
  refine (bigSep_mono fun c _ => lev_assign_cells (c.tc : Thread nD τ) L lv).trans <| (BI.bigSep_bupd _ _).trans <| BI.bupd_mono ?_
  have hoff : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [L_of_ne (((d, p) : Thread nD τ), sm) (Finset.ne_of_mem_erase hp), BI.bigSep_empty], BI.bigSep_emp_const]).trans
      (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hoff, bigSep_sep']
  have h0 (A B : sProp 𝕄) : iprop(A ∗ B) ⊢ iprop(B ∗ BI.emp) := by
    iintro ⟨-, H⟩
    isplitl [H]; · iexact H
    iempintro
  exact h0 _ _

/-- One device's share of the launch, its scoped semaphores sorted into the pipeline's (none), the kernel's own and the
    idle ones. -/
theorem core_start (O₀ : Dev nD → CellTallies nD τ sig Unit) (c : Dev nD) :
    coreInit (Ix := Unit) (Name := ℕ) (U := UU) (Lvl := ℕ) (Pipeline.owing O₀) 0 (⟨m, fun _ => 0, ρ⟩ : MemSt nD τ sig (Elt F)) (c.tc : Thread nD τ)
      ⊢ iprop((scopedBufs (c.tc : Thread nD τ) ∗ Pipeline.cellsSems0 cfgs 0 c ∗ Pipeline.idleSems0 cfgs cellOf_inj 0 ownSemFacts c)
          ∗ (Pipeline.ownSems0 osem c ∗ unscopedBufs c (fun b => m ((c.tc : Thread nD τ).loc b)))
          ∗ owes (c.tc : Thread nD τ) (O₀ c) ∅ ∗ levels0 c ∗ Pipeline.launchCred O₀ c) := by
  refine (Pipeline.coreInit_boundary_owing O₀ m ρ c).trans ?_
  unfold boundary
  rw [Pipeline.scopedSems0_split cfgs cellOf_inj 0 winFacts0.to₀ ownSemFacts c]
  iintro ⟨⟨Hsc, ⟨⟨Hcells, Hos⟩, Hidle⟩, -⟩, Hub, -, HO, Hlv, -, Hcr⟩
  isplitl [Hsc Hcells Hidle]
  · isplitl [Hsc]; · iexact Hsc
    isplitl [Hcells] <;> iassumption
  isplitl [Hos Hub]
  · isplitl [Hos] <;> iassumption
  isplitl [HO]; · iexact HO
  isplitl [Hlv] <;> iassumption

/-- The kernel has no window, so no windowed array, -/
theorem no_arrays {c : Dev nD} (d : Dat τ (Elt F) Unit ℕ UU ℕ cfg0 c) (A) : (BI.emp : sProp 𝕄) ⊢ d.arrays A := by
  unfold Dat.arrays
  exact Entails.of_eq BI.bigSep_empty.symm
/-- and no prefetched table. -/
theorem no_tables (c : Dev nD) : (BI.emp : sProp 𝕄) ⊢ Pipeline.prefHeld (pcs (F := F) 0).pre c (fun _ => fullShare) (adm (F := F) 0).1 := by
  unfold Pipeline.prefHeld
  exact Entails.of_eq BI.bigSep_empty.symm
/-- What a device owes at the region's entry. -/
theorem owes_start {c : Dev nD} (d : Dat τ (Elt F) Unit ℕ UU ℕ cfg0 c) (O : CellTallies nD τ sig Unit) (h : d.owed 0 = O) :
    (owes (c.tc : Thread nD τ) O ∅ : sProp 𝕄) ⊢ d.owesAt () 0 := by
  unfold Dat.owesAt Pipeline.owesWithin
  rw [h]
  iintro HL
  iexists ∅; isplitr; · ipureintro; rw [Finset.coe_empty]; exact Set.empty_subset _
  iexact HL

/-- One device's run: the region, then the return. -/
theorem core_run (dats : (p : Fin 1) → (c : Dev nD) → Dat τ (Elt F) Unit ℕ UU ℕ (cfgs p) c) (c : Dev nD)
    (hbody : Pipeline.BodyObligationLoose (dats 0 c) (defs₀ (F := F)) 𝒱₀ () Set.univ)
    (O : CellTallies nD τ sig Unit) (howed₀ : (dats 0 c).owed 0 = O) (howedN : (dats 0 c).owed (Fin.last _) = 0)
    (hwaits : (levAts L lv : sProp 𝕄) ⊢ Pipeline.cellsWaits cfgs dats () 0 c)
    (C G' Y : sProp 𝕄)
    (hin : iprop((levAts L lv ∗ C ∗ G') ∗ Pipeline.scopedRest cfg0.spec c) ⊢ (dats 0 c).Φ 0)
    (hout : (dats 0 c).Φ (Fin.last cfg0.N) ⊢ iprop(Y ∗ Pipeline.ownSems0 osem c ∗ Pipeline.scopedRest cfg0.spec c))
    (fin : Dev nD → sProp 𝕄) (hfin : fin c = iprop(Y ∗ scopedSems0 (c.tc : Thread nD τ))) :
    iprop((scopedBufs (c.tc : Thread nD τ) ∗ Pipeline.cellsSems0 cfgs 0 c ∗ Pipeline.idleSems0 cfgs cellOf_inj 0 ownSemFacts c)
        ∗ owes (c.tc : Thread nD τ) O ∅ ∗ levAts L lv ∗ C
        ∗ Pipeline.cellsGhost cfgs EP 0 c ∗ Pipeline.toksInit cfgs EP 0 c ∗ G')
      ⊢ wp frame (wpE (defs (F := F)) (Variants.lift 𝒱₀) (c.tc : Thread nD τ) none) Set.univ (main (F := F) c)
          (fun _ => post (liftTc fin BI.emp) (c.tc : Thread nD τ)) := by
  have hsb := Pipeline.scopedBufs_split cfgs 0 winFacts0.to₀.stage_scoped winFacts0.to₀.stage_inj stage_whole0 (Ix := Unit) (Val := Elt F) (Name := ℕ) (U := UU) (Lvl := ℕ) (τ := τ) c
  have hin' : iprop((levAts L lv ∗ C ∗ G') ∗ Pipeline.prefHeld (pcs (F := F) 0).pre c (fun _ => fullShare) (adm (F := F) 0).1 ∗ Pipeline.scopedRest cfg0.spec c)
      ⊢ (dats 0 c).Φ 0 := by
    have h0 : iprop((levAts L lv ∗ C ∗ G') ∗ Pipeline.prefHeld (pcs (F := F) 0).pre c (fun _ => fullShare) (adm (F := F) 0).1 ∗ Pipeline.scopedRest cfg0.spec c)
        ⊢ iprop((levAts L lv ∗ C ∗ G') ∗ Pipeline.scopedRest cfg0.spec c) := by
      iintro ⟨H1, -, H2⟩
      isplitl [H1] <;> iassumption
    exact h0.trans hin
  have hout' : iprop((dats 0 c).Φ (Fin.last cfg0.N) ∗ Pipeline.cellsSems0 cfgs 0 c ∗ Dat.staging cfg0 c ∗ Pipeline.idleSems0 cfgs cellOf_inj 0 ownSemFacts c)
      ⊢ iprop(Y ∗ scopedSems0 (c.tc : Thread nD τ) ∗ scopedBufs (c.tc : Thread nD τ)) := by
    rw [Pipeline.scopedSems0_split cfgs cellOf_inj 0 winFacts0.to₀ ownSemFacts c, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hpost : Pipeline.EntryPost cfgs dats () 0 c ⊢ iprop(∃ W, owes (c.tc : Thread nD τ) (0 : CellTallies nD τ sig Unit) W) := by
    unfold Pipeline.EntryPost Pipeline.PerCore.EntryPost Dat.owesAt Pipeline.owesWithin
    rw [howedN]
    iintro ⟨-, ⟨%W, -, HW⟩⟩
    iexists W; iexact HW
  rw [show main (F := F) c = .op (.customCall (Pipeline.entry 0) ()) fun _ => .ret ⟨⟩ from rfl]
  iintro ⟨⟨Hsc, Hcells, Hidle⟩, HL, #Hla, Hcr, Hg, Ht, HG⟩
  ihave Hw := hwaits $$ Hla
  iapply (fupd_wp frame (wpE defs (Variants.lift 𝒱₀) (c.tc : Thread nD τ) none) Set.univ _ _)
  imod (Pipeline.cellsInit_alloc cfgs dats EP cellOf_inj 0 c) $$ [Hcells Hg] with ⟨%κ, -, Hinit⟩
  · isplitl [Hcells] <;> iassumption
  imodintro
  iapply (Pipeline.wp_customCall_entry_frame (pcs (F := F)) adm dats () EP κ cellOf_inj 0 defs₀ 𝒱₀ (fun _ => fullShare) c Set.univ (fun _ _ => Set.mem_univ _)
      hbody block_pos0 none (fun u h => nomatch h) (X := iprop(levAts L lv ∗ C ∗ G')) (Y := Y) (R := Pipeline.scopedRest cfg0.spec c)
      (I := Pipeline.idleSems0 cfgs cellOf_inj 0 ownSemFacts c)
      (Entails.of_eq (hsb)) hin' hout'
      (α := PUnit) (k := fun _ : PUnit => .ret ⟨⟩) (Q := fun _ => post (liftTc fin BI.emp) (c.tc : Thread nD τ))) $$ [HL Hinit Ht Hcr HG Hidle Hsc Hw]
  · isplitl [HL Hinit Ht Hw]
    · unfold Pipeline.EntryPre Pipeline.PerCore.EntryPre
      isplitr; · iapply (no_arrays (dats 0 c) _); iempintro
      isplitl [HL]
      · iapply (owes_start (dats 0 c) O howed₀); iexact HL
      isplitl [Hw]; · iexact Hw
      isplitl [Hinit] <;> iassumption
    isplitr
    · iapply (no_tables (F := F) c); iempintro
    isplitl [Hcr HG]
    · isplitr; · iexact Hla
      isplitl [Hcr] <;> iassumption
    isplitl [Hidle]; · iexact Hidle
    iexact Hsc
  iintro ⟨Hpost, HY, Hss2, -⟩
  rw [wp_ret]; imodintro
  unfold post; simp only [liftTc_tc]; rw [hfin]
  ihave HW := hpost $$ Hpost
  isplitr [HW]
  · isplitl [HY] <;> iassumption
  · iexact HW

/-- The launch: from each device's body and the step that deals out what the devices hold of each other, every execution
    ends with what each device is left with (`Y`) read off the memory, and every counter at zero. -/
theorem launch (dats : (p : Fin 1) → (c : Dev nD) → Dat τ (Elt F) Unit ℕ UU ℕ (cfgs p) c)
    (hbody : ∀ c, Pipeline.BodyObligationLoose (dats 0 c) (defs₀ (F := F)) 𝒱₀ () Set.univ)
    (O₀ : Dev nD → CellTallies nD τ sig Unit) (howed₀ : ∀ c, (dats 0 c).owed 0 = O₀ c) (howedN : ∀ c, (dats 0 c).owed (Fin.last _) = 0)
    (hwaits : ∀ c, (levAts L lv : sProp 𝕄) ⊢ Pipeline.cellsWaits cfgs dats () 0 c)
    (G G' : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop((Pipeline.ownSems0 osem c ∗ unscopedBufs c (fun b => m ((c.tc : Thread nD τ).loc b))) ∗ G c) : sProp 𝕄)
      ⊢ |={Set.univ}=> bigSep Finset.univ G')
    (Y : Dev nD → sProp 𝕄)
    (hin : ∀ c, iprop((levAts L lv ∗ Pipeline.launchCred O₀ c ∗ G' c) ∗ Pipeline.scopedRest cfg0.spec c) ⊢ (dats 0 c).Φ 0)
    (hout : ∀ c, (dats 0 c).Φ (Fin.last cfg0.N) ⊢ iprop(Y c ∗ Pipeline.ownSems0 osem c ∗ Pipeline.scopedRest cfg0.spec c))
    (QY : Dev nD → MemSt nD τ sig (Elt F) → Prop)
    (hY : ∀ c (s' : Phys nD τ sig (Elt F)), iprop(Y c ∗ SI s') ⊢ iprop(⌜QY c s'.mem⌝ ∗ SI s')) :
    θ_run defs (onTc (τ := τ) (main (F := F))) ⟨m, fun _ => 0, ρ⟩ (fun r => (∀ c, QY c r.2) ∧ r.2.sem = fun _ => 0) := by
  classical
  let pre : Dev nD → sProp 𝕄 := fun c => iprop((scopedBufs (c.tc : Thread nD τ) ∗ Pipeline.cellsSems0 cfgs 0 c ∗ Pipeline.idleSems0 cfgs cellOf_inj 0 ownSemFacts c)
    ∗ owes (c.tc : Thread nD τ) (O₀ c) ∅ ∗ levAts L lv ∗ Pipeline.launchCred O₀ c
    ∗ Pipeline.cellsGhost cfgs EP 0 c ∗ Pipeline.toksInit cfgs EP 0 c ∗ G' c)
  let fin : Dev nD → sProp 𝕄 := fun c => iprop(Y c ∗ scopedSems0 (c.tc : Thread nD τ))
  refine (θ_run defs _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩) (adequate_tpu defs _ _ _
    (reflect_intro_fupd_tc_sems (X := Unit) (Variants.lift 𝒱₀) (Pipeline.owing O₀) 0 (noBookings fun _ => le_rfl) (Pipeline.owing_of_ne O₀) u₀
      (fun _ => pre) (fun _ => fin) (fun _ => iprop(emp)) Set.univ ?_ (fun _ c => ?_) fun _ => ?_))
  · have hcores : (bigSep Finset.univ fun d : Dev nD =>
          coreInit (Ix := Unit) (Name := ℕ) (U := UU) (Lvl := ℕ) (Pipeline.owing O₀) 0 (⟨m, fun _ => 0, ρ⟩ : MemSt nD τ sig (Elt F)) (d.tc : Thread nD τ)) ⊢ _ :=
      bigSep_mono fun (c : Dev nD) (_ : c ∈ Finset.univ) => core_start (F := F) m ρ O₀ c
    simp only [bigSep_sep'] at hcores
    have hpick (Φ : Fin 1 → Dev nD → sProp 𝕄) :
        (bigSep Finset.univ fun c : Dev nD => bigSep Finset.univ fun p => Φ p c) ⊢ bigSep Finset.univ fun c : Dev nD => Φ 0 c :=
      bigSep_mono fun c _ => BI.bigSep_elim (Finset.mem_univ 0)
    iintro ⟨Hcores, Hu⟩
    ihave Hc := hcores $$ Hcores
    icases Hc with ⟨Hb, Hos, HL, Hlv, Hcr⟩
    imod (levels_all (F := F)) $$ Hlv with Hla
    imod hu₀ $$ Hu with ⟨HP, HG⟩
    imod (Pipeline.fund_ghost cfgs EP cellOf_inj) $$ HP with ⟨Hg, Ht⟩
    imod hglob $$ [Hos HG] with HG'
    · simp only [bigSep_sep']
      isplitl [Hos] <;> iassumption
    imodintro
    iexists ()
    isplitr []
    · simp only [pre, bigSep_sep']
      isplitl [Hb]; · iexact Hb
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun p' c => Pipeline.cellsGhost cfgs EP p' c); iexact Hg
      isplitl [Ht]; · iapply (hpick fun p' c => Pipeline.toksInit cfgs EP p' c); iexact Ht
      iexact HG'
    · iempintro
  · simp only [pre]
    exact core_run dats c (hbody c) (O₀ c) (howed₀ c) (howedN c) (hwaits c) (iprop(Pipeline.launchCred O₀ c)) (G' c) (Y c) (hin c) (hout c) fin rfl
  · have hcore (c : Dev nD) (s' : Phys nD τ sig (Elt F)) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      ihave Hr := (hY c s') $$ [HY HSI]
      · isplitl [HY] <;> iassumption
      icases Hr with ⟨%hy, HSI⟩
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.Proof

end
-- ==== Proof.Deal.lean ====
module

public import proofs.«01_k».proof.Proof.Pieces
public import proofs.«01_k».proof.Proof.Launch

/-!
What the launch deals the devices: the state of the exchange's cells and their duties' tokens, each receive cell's token and
each row block handed to the device that sends to it, and the credits of the receipts.
-/

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The exchange's cells -/

theorem xsemFacts : Pipeline.OwnSemFacts cfg0.spec xsem := by decide

/-- Cell `k` of device `c`'s exchange. -/
abbrev xcell (ck : Dev nD × Fin 14) : GSem nD τ sig := ((ck.1 : Thread nD τ), xsem ck.2)

theorem xcell_send (c : Dev nD) (s : Fin 7) : xcell (c, sIx s) = cell c (6 + s.val) (lt22s s) :=
  congrArg (Prod.mk (c : Thread nD τ)) (show xsem (sIx s) = .dma ⟨6 + s.val, lt22s s⟩ by revert s; decide)
theorem xcell_recv (c : Dev nD) (s : Fin 7) : xcell (c, rIx s) = cell c (14 + s.val) (lt22 s) :=
  congrArg (Prod.mk (c : Thread nD τ)) (show xsem (rIx s) = .dma ⟨14 + s.val, lt22 s⟩ by revert s; decide)

/-- One duty on each of a device's own cells; who pays it is settled when the tokens are dealt. -/
abbrev duties : Dev nD → Finset (Fin 14 × ℕ × Unit) := fun _ =>
  Finset.univ.map ⟨fun k => (k, 0, ()), fun _ _ h => congrArg Prod.fst h⟩

/-- The launch element: the pipeline's part, the exchange's part, no counter. -/
def u₀ : UU :=
  (initOf (Pipeline.cells cfgs cellOf_inj) (Pipeline.launchToks cfgs cellOf_inj),
    (initOf (Pipeline.ownCells cfgs (0 : Fin 1) xsemFacts) (Pipeline.ownToksOf cfgs (0 : Fin 1) xsemFacts duties), 1))

theorem ownU_parts (a b : RC) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op ((b, 1) : RC × Counters))))

/-- The tokens of a device's own cells. -/
def toks (c : Dev nD) : sProp 𝕄 := bigSep Finset.univ fun k : Fin 14 => dutyTok ER (xcell (c, k)) 0 ()

theorem toks_eq (c : Dev nD) :
    (bigSep (duties c) fun x => (dutyTok ER ((c : Thread nD τ), xsem x.1) x.2.1 x.2.2 : sProp 𝕄)) = toks c := by
  unfold toks; rw [BI.bigSep_map]; rfl

/-- What the launch element gives device `c`: its cells' states and its cells' tokens. -/
def G (c : Dev nD) : sProp 𝕄 := iprop(Pipeline.ownGhost cfgs (0 : Fin 1) xsemFacts ER (sched m) c ∗ toks c)

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_parts _ _) $$ Hu
  icases H with ⟨HP, HX⟩
  imod (Pipeline.fund_own cfgs (0 : Fin 1) xsemFacts ER (sched m) (Pipeline.ownToksOf cfgs (0 : Fin 1) xsemFacts duties)) $$ HX with ⟨Hx, Htok⟩
  ihave Htk := (Entails.of_eq (Pipeline.bigSep_ownToksOf cfgs (0 : Fin 1) xsemFacts ER duties)) $$ Htok
  imodintro
  isplitl [HP]; · iexact HP
  unfold G; rw [bigSep_sep', ← bigSep_congr (s := Finset.univ) fun (c : Dev nD) _ => toks_eq (F := F) c]
  isplitl [Hx] <;> iassumption

/-! ## A device's semaphores and buffers -/

/-- The semaphores that are no exchange cell's: those of the local copies, and two the kernel never uses. -/
def rest (c : Dev nD) : sProp 𝕄 :=
  iprop((semVal (cell c 0) 0 ∗ semVal (cell c 1) 0 ∗ semVal (cell c 2) 0 ∗ semVal (cell c 3) 0 ∗ semVal (cell c 4) 0 ∗ semVal (cell c 5) 0)
    ∗ semVal (cell c 13) 0 ∗ semVal (cell c 21) 0)

theorem sems_eq (c : Dev nD) : (Pipeline.ownSems0 osem c : sProp 𝕄) = iprop(Pipeline.ownSems0 xsem c ∗ rest c) := by
  have h : (Pipeline.ownSems0 osem c : sProp 𝕄) = _ := Pipeline.ownSems0_eq_of_list (Ix := Unit) (Val := Elt F) (Name := ℕ) (U := UU) (Lvl := ℕ) (τ := τ) c osem
    [6, 7, 8, 9, 10, 11, 12, 14, 15, 16, 17, 18, 19, 20, 0, 1, 2, 3, 4, 5, 13, 21] (by decide) (by decide)
  rw [h]
  unfold Pipeline.ownSems0 rest
  rw [fin14_sep]
  simp only [show ∀ P Q R : sProp 𝕄, iprop((P ∗ Q) ∗ R) = iprop(P ∗ Q ∗ R) from fun _ _ _ => BI.equiv_iff.mp ⟨BI.sep_assoc, BI.sep_assoc'⟩]
  rfl

/-- A device's buffers outside the kernel's scope: the two arguments and the result. -/
theorem bufs_eq (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_v1) ↦{fullShare} V main_v1)) := by
  unfold unscopedBufs
  exact bigSep_eq_bigSepL_of_eq [main_arg0, main_arg1, main_v1] (by decide) (by decide) _

/-- What of them stays with the device: the arguments, its own row block, the other semaphores. -/
def keep (c : Dev nD) : sProp 𝕄 :=
  iprop(((((c : Thread nD τ).loc main_arg0) ↦{fullShare} m ((c : Thread nD τ).loc main_arg0))
      ∗ (((c : Thread nD τ).loc main_arg1) ↦{fullShare} m ((c : Thread nD τ).loc main_arg1)))
    ∗ held c (oBlk c) (m ((c : Thread nD τ).loc main_v1)) ∗ rest c)

/-- On one device: its cells' invariants, its places and marks, its tokens, the row blocks its peers fill, and what stays. -/
theorem core_alloc (c : Dev nD) :
    iprop((Pipeline.ownSems0 osem c ∗ unscopedBufs c (fun b => m ((c : Thread nD τ).loc b))) ∗ G m c)
      ⊢ |={Set.univ}=> iprop((bigSep Finset.univ fun k : Fin 14 => iprop(∃ κ : ℕ, cellInv ER (sched m) κ (xcell (c, k))))
          ∗ (bigSep Finset.univ fun k : Fin 14 => iprop(atPos ER (xcell (c, k)) 0 ∅ 0 ∗ reached ER (xcell (c, k)) 0)) ∗ toks c
          ∗ (bigSep Finset.univ fun s : Fin 7 => held c (oBlk (src c s.val)) (m ((c : Thread nD τ).loc main_v1))) ∗ keep m c) := by
  unfold G keep
  rw [Pipeline.ownGhost_eq, sems_eq, bufs_eq]
  iintro ⟨⟨⟨Hos, Hrest⟩, Ha, Hw, Hr⟩, ⟨Hst, Hat⟩, Htok⟩
  ihave Hr := (result_split c (m ((c : Thread nD τ).loc main_v1))) $$ Hr
  icases Hr with ⟨Hpeers, Hown⟩
  imod (Pipeline.ownCells_alloc cfgs (0 : Fin 1) xsemFacts ER (sched m) c) $$ [Hos Hst] with Hinv
  · isplitl [Hos] <;> iassumption
  imodintro
  isplitl [Hinv]; · iexact Hinv
  isplitl [Hat]; · iexact Hat
  isplitl [Htok]; · iexact Htok
  isplitl [Hpeers]; · iexact Hpeers
  isplitl [Ha Hw]
  · isplitl [Ha] <;> iassumption
  isplitl [Hown] <;> iassumption

/-! ## Dealing -/

/-- A step of the exchange seen from its two ends: the sender of step `s`, and who receives it. -/
def exch : Dev nD × Fin 7 ≃ Dev nD × Fin 7 where
  toFun x := (dst x.1 x.2.val, x.2)
  invFun x := (src x.1 x.2.val, x.2)
  left_inv x := Prod.ext (src_dst x.1 x.2) rfl
  right_inv x := Prod.ext (dst_src x.1 x.2) rfl

/-- What every device holds for its receipts is what every device holds for its sends. -/
theorem across (Φ : Dev nD → Fin 7 → sProp 𝕄) :
    (bigSep Finset.univ fun c : Dev nD => bigSep Finset.univ fun s : Fin 7 => Φ c s)
      = bigSep Finset.univ fun c : Dev nD => bigSep Finset.univ fun s : Fin 7 => Φ (dst c s.val) s := by
  rw [← BI.bigSep_univ_prod fun x : Dev nD × Fin 7 => Φ x.1 x.2, BI.bigSep_univ_equiv exch, BI.bigSep_univ_prod]; rfl

theorem split14 (Φ : Fin 14 → sProp 𝕄) :
    bigSep Finset.univ Φ ⊢ iprop((bigSep Finset.univ fun s : Fin 7 => Φ (sIx s)) ∗ bigSep Finset.univ fun s : Fin 7 => Φ (rIx s)) := by
  rw [fin14_sep, show (bigSep Finset.univ fun s : Fin 7 => Φ (sIx s)) = iprop(Φ 0 ∗ Φ 1 ∗ Φ 2 ∗ Φ 3 ∗ Φ 4 ∗ Φ 5 ∗ Φ 6) from fin7_sep _,
    show (bigSep Finset.univ fun s : Fin 7 => Φ (rIx s)) = iprop(Φ 7 ∗ Φ 8 ∗ Φ 9 ∗ Φ 10 ∗ Φ 11 ∗ Φ 12 ∗ Φ 13) from fin7_sep _]
  iintro ⟨H0, H1, H2, H3, H4, H5, H6, H7⟩
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexact H7

/-- The records every device may consult. -/
def records (K : Dev nD × Fin 14 → ℕ) : sProp 𝕄 :=
  iprop((bigSep Finset.univ fun ck : Dev nD × Fin 14 => cellInv ER (sched m) (K ck) (xcell ck))
    ∗ bigSep Finset.univ fun ck : Dev nD × Fin 14 => reached ER (xcell ck) 0)

instance records_persistent (K : Dev nD × Fin 14 → ℕ) : BI.Persistent (records (F := F) m K) := by unfold records; infer_instance

theorem record_inv (K : Dev nD × Fin 14 → ℕ) (ck : Dev nD × Fin 14) : records (F := F) m K ⊢ cellInv ER (sched m) (K ck) (xcell ck) := by
  have h : (bigSep Finset.univ fun ck : Dev nD × Fin 14 => (cellInv ER (sched m) (K ck) (xcell ck) : sProp 𝕄)) ⊢ cellInv ER (sched m) (K ck) (xcell ck) :=
    bigSep_elim (Finset.mem_univ ck)
  unfold records
  iintro ⟨H, -⟩
  iapply h; iexact H
theorem record_reached (K : Dev nD × Fin 14 → ℕ) (ck : Dev nD × Fin 14) : records (F := F) m K ⊢ reached ER (xcell ck) 0 := by
  have h : (bigSep Finset.univ fun ck : Dev nD × Fin 14 => (reached ER (xcell ck) 0 : sProp 𝕄)) ⊢ reached ER (xcell ck) 0 :=
    bigSep_elim (Finset.mem_univ ck)
  unfold records
  iintro ⟨-, H⟩
  iapply h; iexact H

/-- What each step needs of them. -/
theorem invs_intro (K : Dev nD × Fin 14 → ℕ) (c : Dev nD) (s : Fin 7) : records (F := F) m K ⊢ invs m K c s := by
  have h1 := record_inv (F := F) m K (c, sIx s)
  have h2 := record_inv (F := F) m K (c, rIx s)
  have h3 := record_inv (F := F) m K (dst c s.val, rIx s)
  have h4 := record_reached (F := F) m K (c, sIx s)
  have h5 := record_reached (F := F) m K (dst c s.val, rIx s)
  rw [xcell_send] at h1 h4
  rw [xcell_recv] at h2 h3 h5
  unfold invs invsAt
  iintro #H
  isplitr; · iapply h1; iexact H
  isplitr; · iapply h2; iexact H
  isplitr; · iapply h3; iexact H
  isplitr; · iapply h4; iexact H
  iapply h5; iexact H

/-- What a step uses up, but for its receipt's credit. -/
def give (c : Dev nD) (s : Fin 7) : sProp 𝕄 :=
  iprop(atPos ER (xcell (c, sIx s)) 0 ∅ 0 ∗ atPos ER (xcell (c, rIx s)) 0 ∅ 0
    ∗ dutyTok ER (xcell (c, sIx s)) 0 () ∗ dutyTok ER (xcell (dst c s.val, rIx s)) 0 ()
    ∗ held (dst c s.val) (oBlk c) (m ((dst c s.val : Thread nD τ).loc main_v1)))

theorem share_intro (c : Dev nD) (s : Fin 7) :
    iprop(give m c s ∗ cred (tallyAt (cell c (14 + s.val) (lt22 s)) () N)) ⊢ share (F := F) m c s := by
  unfold give share shareAt
  rw [xcell_send, xcell_recv, xcell_recv]
  iintro ⟨⟨H1, H2, H3, H4, H5⟩, H6⟩
  isplitl [H1]; · iexact H1
  isplitl [H2]; · iexact H2
  isplitl [H3]; · iexact H3
  isplitl [H4]; · iexact H4
  isplitl [H6]; · iexact H6
  iexact H5

/-- What a device starts from. -/
def G' (c : Dev nD) : sProp 𝕄 :=
  iprop((∃ K, bigSep Finset.univ (invs m K c)) ∗ (bigSep Finset.univ fun s : Fin 7 => give m c s) ∗ keep m c)

/-- A persistent assertion serves every summand. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens, the receive cells' now with the senders. -/
theorem toks_dealt : (bigSep Finset.univ fun c : Dev nD => (toks c : sProp 𝕄))
    ⊢ iprop((bigSep Finset.univ fun c : Dev nD => bigSep Finset.univ fun s : Fin 7 => dutyTok ER (xcell (c, sIx s)) 0 ())
        ∗ bigSep Finset.univ fun c : Dev nD => bigSep Finset.univ fun s : Fin 7 => dutyTok ER (xcell (dst c s.val, rIx s)) 0 ()) := by
  rw [← across fun c s => (dutyTok ER (xcell (c, rIx s)) 0 () : sProp 𝕄), ← bigSep_sep']
  exact bigSep_mono fun c _ => split14 _

/-- The row blocks, each with the device that fills it. -/
theorem blocks_dealt :
    (bigSep Finset.univ fun c : Dev nD => bigSep Finset.univ fun s : Fin 7 => held c (oBlk (src c s.val)) (m ((c : Thread nD τ).loc main_v1)))
      ⊢ (bigSep Finset.univ fun c : Dev nD => bigSep Finset.univ fun s : Fin 7 =>
          held (dst c s.val) (oBlk c) (m ((dst c s.val : Thread nD τ).loc main_v1)) : sProp 𝕄) := by
  rw [across fun c s => (held c (oBlk (src c s.val)) (m ((c : Thread nD τ).loc main_v1)) : sProp 𝕄)]
  exact bigSep_mono fun c _ => bigSep_mono fun s _ => by rw [src_dst]; exact BI.Entails.refl _

/-- One device's part, step by step. -/
theorem give_intro (c : Dev nD) :
    iprop((bigSep Finset.univ fun k : Fin 14 => atPos ER (xcell (c, k)) 0 ∅ 0)
        ∗ (bigSep Finset.univ fun s : Fin 7 => dutyTok ER (xcell (c, sIx s)) 0 ())
        ∗ (bigSep Finset.univ fun s : Fin 7 => dutyTok ER (xcell (dst c s.val, rIx s)) 0 ())
        ∗ bigSep Finset.univ fun s : Fin 7 => held (dst c s.val) (oBlk c) (m ((dst c s.val : Thread nD τ).loc main_v1)))
      ⊢ (bigSep Finset.univ fun s : Fin 7 => give m c s : sProp 𝕄) := by
  unfold give
  simp only [bigSep_sep']
  iintro ⟨Hat, H3, H4, H5⟩
  ihave Hat := (split14 fun k => (atPos ER (xcell (c, k)) 0 ∅ 0 : sProp 𝕄)) $$ Hat
  icases Hat with ⟨H1, H2⟩
  isplitl [H1]; · iexact H1
  isplitl [H2]; · iexact H2
  isplitl [H3]; · iexact H3
  isplitl [H4]; · iexact H4
  iexact H5

theorem start_intro (K : Dev nD × Fin 14 → ℕ) (c : Dev nD) :
    iprop(records m K ∗ ((bigSep Finset.univ fun s : Fin 7 => give m c s) ∗ keep m c)) ⊢ G' (F := F) m c := by
  unfold G'
  iintro ⟨#HR, Hg, Hk⟩
  isplitr
  · iexists K
    iapply (bigSep_intro_persistent (S := Finset.univ) fun (s : Fin 7) _ => invs_intro (F := F) m K c s); iexact HR
  isplitl [Hg] <;> iassumption

/-- All the devices' parts, regrouped: one map of names, the records copied to every device, tokens and blocks dealt. -/
theorem regroup :
    (bigSep Finset.univ fun c : Dev nD => iprop((bigSep Finset.univ fun k : Fin 14 => iprop(∃ κ : ℕ, cellInv ER (sched m) κ (xcell (c, k))))
          ∗ (bigSep Finset.univ fun k : Fin 14 => iprop(atPos ER (xcell (c, k)) 0 ∅ 0 ∗ reached ER (xcell (c, k)) 0)) ∗ toks c
          ∗ (bigSep Finset.univ fun s : Fin 7 => held c (oBlk (src c s.val)) (m ((c : Thread nD τ).loc main_v1))) ∗ keep m c) : sProp 𝕄)
      ⊢ bigSep Finset.univ (G' m) := by
  have hgive := bigSep_mono (s := Finset.univ) fun (c : Dev nD) _ => give_intro (F := F) m c
  simp only [bigSep_sep'] at hgive ⊢
  rw [← BI.bigSep_univ_prod (fun ck : Dev nD × Fin 14 => iprop(∃ κ : ℕ, cellInv ER (sched (F := F) m) κ (xcell ck))),
    ← BI.bigSep_univ_prod (fun ck : Dev nD × Fin 14 => (reached ER (xcell ck) 0 : sProp 𝕄))]
  iintro ⟨HI, ⟨Hat, #HR⟩, Htok, Hblk, Hkeep⟩
  ihave HK := (BI.bigSep_exists_pi Finset.univ (fun (ck : Dev nD × Fin 14) (κ : ℕ) => (cellInv ER (sched m) κ (xcell ck) : sProp 𝕄))) $$ HI
  icases HK with ⟨%K, #HI⟩
  ihave Htk := (toks_dealt (F := F)) $$ Htok
  icases Htk with ⟨Hts, Htr⟩
  ihave Hb := (blocks_dealt (F := F) m) $$ Hblk
  iapply (with_persistent (R := records m K) fun c _ => start_intro m K c)
  isplitr
  · unfold records; isplitl; · iexact HI
    iexact HR
  rw [bigSep_sep']
  isplitr [Hkeep]
  · iapply (show _ ⊢ _ from hgive)
    isplitl [Hat]; · iexact Hat
    isplitl [Hts]; · iexact Hts
    isplitl [Htr]; · iexact Htr
    iexact Hb
  · iexact Hkeep

/-- The step for all devices at once. -/
theorem glob : (bigSep Finset.univ fun c => iprop((Pipeline.ownSems0 osem c ∗ unscopedBufs c (fun b => m ((c.tc : Thread nD τ).loc b))) ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What device `d` owes device `c`'s receive cell of step `s`: a tile's credit, if it is the sender. -/
theorem owed_recv (d c : Dev nD) (s : Fin 7) :
    owed d 0 (cell c (14 + s.val) (lt22 s)) () = if d = src c s.val then N else 0 := by
  unfold owed
  rw [Finset.sum_apply, Finsupp.finsetSum_apply, Finset.sum_eq_single s]
  · rw [if_pos (Nat.zero_le _), tallyAt_apply]
    by_cases h : d = src c s.val
    · subst h; rw [dst_src, if_pos ⟨rfl, rfl⟩, if_pos rfl]
    · rw [if_neg h, if_neg (fun h' => h (by
        have hc : c = dst d s.val := Fin.ext (congrArg (fun g : GSem nD τ sig => g.1.1.val) h'.1)
        rw [hc, src_dst]))]
  · intro s' _ hs
    rw [if_pos (Nat.zero_le _), tallyAt_apply, if_neg]
    rintro ⟨h, -⟩
    have hk : 14 + s.val = 14 + s'.val := congrArg (fun g : GSem nD τ sig => num g.2) h
    exact hs (Fin.ext (by omega))
  · exact fun h => absurd (Finset.mem_univ s) h

theorem launch_recv (c : Dev nD) (s : Fin 7) :
    tallyOn (cell c (14 + s.val) (lt22 s)) (launchCredit (Pipeline.owing fun d => owed d 0) 0 (cell c (14 + s.val) (lt22 s)))
      = (tallyAt (cell c (14 + s.val) (lt22 s)) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (src c s.val) fun _ => N, if_pos (Finset.mem_univ _)]

/-- The receive cells, among all the semaphores. -/
def recvSem : Fin 7 ↪ SemLoc sig := ⟨fun s => .dma ⟨14 + s.val, lt22 s⟩, fun s s' h => Fin.ext (by
  have : 14 + s.val = 14 + s'.val := congrArg num h
  omega)⟩

/-- A device's launch credit holds that of its seven receipts. -/
theorem creds (c : Dev nD) : (Pipeline.launchCred (fun d => owed d 0) c : sProp 𝕄)
    ⊢ bigSep Finset.univ fun s : Fin 7 => cred (tallyAt (cell c (14 + s.val) (lt22 s)) () N) := by
  classical
  unfold Pipeline.launchCred
  refine (BI.bigSep_subset (Finset.subset_univ (Finset.univ.map recvSem))).trans ?_
  rw [BI.bigSep_map]
  exact bigSep_mono fun s _ => Entails.of_eq (congrArg cred (launch_recv c s))

end Cert.Proof

end
-- ==== Proof.Run.lean ====
module

public import proofs.«01_k».proof.Proof.Deal

/-!
The run of the eight devices: the kernel's one point between what the launch deals a device and what the device is left with,
and the launch's conclusion read off the final memory.
-/

@[expose] public section

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]
local notation "𝕄" => MT nD τ sig Unit (Elt F) ℕ UU ℕ

variable (m : (ℓ : Loc nD τ sig) → Buf (Elt F) ℓ) (ρ : Dev nD → PrngReg)

/-- What a device is left with: the arguments as they were, each row block of its result with its sender's tile. -/
def left (c : Dev nD) : sProp 𝕄 :=
  iprop(((((c : Thread nD τ).loc main_arg0) ↦{fullShare} m ((c : Thread nD τ).loc main_arg0))
      ∗ (((c : Thread nD τ).loc main_arg1) ↦{fullShare} m ((c : Thread nD τ).loc main_arg1)))
    ∗ bigSep Finset.univ (landed m c))

/-- Before the kernel's one point, -/
def before (c : Dev nD) : sProp 𝕄 :=
  iprop((levAts L lv ∗ Pipeline.launchCred (fun d => owed d 0) c ∗ G' m c) ∗ Pipeline.scopedRest cfg0.spec c)
/-- and after it. -/
def after (c : Dev nD) : sProp 𝕄 :=
  iprop(left m c ∗ Pipeline.ownSems0 osem c ∗ Pipeline.scopedRest cfg0.spec c)

/-- The proof data of the region: no window; the two assertions above; the tiles owed before the point, nothing after. -/
def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q _ := fullShare
  owed t := match t with
    | ⟨0, _⟩ => owed c 0
    | ⟨_ + 1, _⟩ => 0

set_option maxRecDepth 8000 in
/-- What the body leaves gives what is asked after the point. -/
theorem after_intro (c : Dev nD) :
    iprop(bodyEnd m c ∗ semVal (cell c 13) 0 ∗ semVal (cell c 21) 0)
      ⊢ iprop(after (F := F) m c ∗ ∃ W, owes (c : Thread nD τ) (0 : CellTallies nD τ sig Unit) W) := by
  unfold bodyEnd after left
  rw [sems_eq, scopedRest0_eq, held_whole, held_whole, owed_end]
  unfold rest Pipeline.ownSems0
  iintro ⟨⟨Hargs, Hland, Hxb, Hxs, Hwf, Hsb, Hlow, Hx, Ho⟩, H13, H21⟩
  ihave Hxs := (xs_join (F := F) c) $$ Hxs
  ihave Hwf := (wf_join (F := F) c) $$ Hwf
  ihave Hsb := (sb_join (F := F) c) $$ Hsb
  isplitr [Ho]
  · isplitl [Hargs Hland]
    · isplitl [Hargs] <;> iassumption
    isplitl [Hlow Hx H13 H21]
    · isplitl [Hx]; · iexact Hx
      isplitl [Hlow]; · iexact Hlow
      isplitl [H13]; · iexact H13
      iexact H21
    isplitl [Hxb]
    · icases Hxb with ⟨%f, Hxb⟩
      iexists f
      iapply (Entails.of_eq (held_whole c cc0_scratch0 f)); iexact Hxb
    isplitl [Hxs]; · iexact Hxs
    isplitl [Hwf]; · iexact Hwf
    iexact Hsb
  · iexact Ho

set_option maxRecDepth 8000 in
/-- The body, from what the launch deals to what it leaves. -/
theorem run_point (c : Dev nD) (W : Waits sig Unit) (Q : PUnit → sProp 𝕄)
    (hQ : iprop(after m c ∗ ∃ W, owes (c : Thread nD τ) (0 : CellTallies nD τ sig Unit) W) ⊢ Q ⟨⟩) :
    iprop(before m c ∗ owes (c : Thread nD τ) (owed c 0) W)
      ⊢ wp frame (wpE (defs₀ (F := F)) 𝒱₀ c none) Set.univ (bodyAt0 t0_0) Q := by
  have hshare : iprop((bigSep Finset.univ fun s : Fin 7 => give m c s) ∗ bigSep Finset.univ fun s : Fin 7 => cred (tallyAt (cell c (14 + s.val) (lt22 s)) () N))
      ⊢ bigSep Finset.univ (share (F := F) m c) := by
    rw [← bigSep_sep']; exact bigSep_mono fun s _ => share_intro m c s
  unfold before G' keep rest
  rw [scopedRest0_eq]
  iintro ⟨⟨⟨#Hlev, Hcr, ⟨%K, #Hinv⟩, Hgive, ⟨Ha, Hw⟩, Hown, Hlow, H13, H21⟩, ⟨%fxb, Hxb⟩, ⟨%fxs, Hxs⟩, ⟨%fwf, Hwf⟩, ⟨%fsb, Hsb⟩⟩, HO⟩
  ihave Hcr := (creds (F := F) c) $$ Hcr
  ihave Hsh := hshare $$ [Hgive Hcr]
  · isplitl [Hgive] <;> iassumption
  ihave Hxs := (xs_split (F := F) c fxs) $$ Hxs
  ihave Hwf := (wf_split (F := F) c fwf) $$ Hwf
  ihave Hsb := (sb_split (F := F) c fsb) $$ Hsb
  have hrun := run_body m K c W fxb fxs fwf fsb (fun _ => bodyEnd m c) (BI.Entails.refl _)
  have hall : _ ⊢ wp frame (wpE (defs₀ (F := F)) 𝒱₀ c none) Set.univ (bodyAt0 t0_0) Q :=
    (sep_mono_left (Q := iprop(semVal (cell c 13) 0 ∗ semVal (cell c 21) 0)) hrun).trans
      ((wp_frame_r frame (wpE (defs₀ (F := F)) 𝒱₀ c none) Set.univ).trans
        (wp_mono frame (wpE (defs₀ (F := F)) 𝒱₀ c none) Set.univ fun _ => (after_intro m c).trans hQ))
  iapply hall
  isplitr [H13 H21]
  · isplitr
    · isplitr; · iexact Hlev
      iexact Hinv
    isplitl [Hsh]; · iexact Hsh
    isplitl [Ha]; · rw [held_whole]; iexact Ha
    isplitl [Hw]; · rw [held_whole]; iexact Hw
    isplitl [Hxb]; · rw [held_whole]; iexact Hxb
    isplitl [Hown]; · iexact Hown
    isplitl [Hxs]; · iexact Hxs
    isplitl [Hwf]; · iexact Hwf
    isplitl [Hsb]; · iexact Hsb
    isplitl [Hlow]; · iexact Hlow
    iexact HO
  · isplitl [H13]; · iexact H13
    iexact H21

set_option maxRecDepth 8000 in
theorem body_obligation (c : Dev nD) : Pipeline.BodyObligationLoose (dats (F := F) m 0 c) (defs₀ (F := F)) 𝒱₀ () Set.univ := fun t => by
  rw [fin_N0 t]
  have hempty (Φ : Fin cfg0.W → sProp 𝕄) : (bigSep Finset.univ Φ : sProp 𝕄) = BI.emp := BI.bigSep_empty
  rw [hempty, hempty]
  have h0 : (dats (F := F) m 0 c).Φ t0_0.castSucc = before m c := rfl
  have h1 : (dats (F := F) m 0 c).Φ t0_0.succ = after m c := rfl
  have h2 : defs₀ (F := F) .tc cfg0.body (cfg0.bodyArgs t0_0 (cfg0.slots t0_0)) = bodyAt0 t0_0 := rfl
  rw [h0, h1, h2]
  unfold Dat.owesAt Pipeline.owesWithin
  rw [show (dats (F := F) m 0 c).owed t0_0.castSucc = owed c 0 from rfl, show (dats (F := F) m 0 c).owed t0_0.succ = 0 from rfl]
  iintro ⟨Hb, ⟨%W, -, HO⟩, -⟩
  iapply (run_point m c W (fun _ => iprop(after m c ∗ (∃ W, ⌜_⌝ ∗ owes (c : Thread nD τ) (0 : CellTallies nD τ sig Unit) W) ∗ BI.emp)) (by
    iintro ⟨HA, ⟨%W', HO⟩⟩
    isplitl [HA]; · iexact HA
    isplitl [HO]
    · iexists W'
      isplitr; · ipureintro; exact fun _ _ => Or.inl trivial
      iexact HO
    · iempintro))
  isplitl [Hb] <;> iassumption

/-- What the final memory says of device `c`. -/
def Final (c : Dev nD) (s : MemSt nD τ sig (Elt F)) : Prop :=
  (s.mem ((c : Thread nD τ).loc main_arg0) = m ((c : Thread nD τ).loc main_arg0)
      ∧ s.mem ((c : Thread nD τ).loc main_arg1) = m ((c : Thread nD τ).loc main_arg1))
    ∧ ∀ k : Fin 8, (oBlk (src c k.val)).view.read (Elt F) (s.mem ((c : Thread nD τ).loc main_v1)) = tile m (src c k.val) k.val

/-- One row block, read off the final memory. -/
theorem landed_read (c : Dev nD) (k : Fin 8) (s' : Phys nD τ sig (Elt F)) :
    iprop(landed m c k ∗ SI s')
      ⊢ iprop(⌜(oBlk (src c k.val)).view.read (Elt F) (s'.mem.mem ((c : Thread nD τ).loc main_v1)) = tile m (src c k.val) k.val⌝ ∗ SI s') := by
  unfold landed
  iintro ⟨⟨%g, %hg, H⟩, HSI⟩
  icombine HSI H gives %h
  isplitr
  · ipureintro
    rw [← hg]
    exact View.read_congr h
  · iexact HSI

/-- What each of several assertions says of the state, all of them say together. -/
theorem reads {I : Type} [DecidableEq I] (S : Finset I) (Φ : I → sProp 𝕄) (P : I → Prop) (R : sProp 𝕄)
    (h : ∀ i, iprop(Φ i ∗ R) ⊢ iprop(⌜P i⌝ ∗ R)) : iprop(bigSep S Φ ∗ R) ⊢ iprop(⌜∀ i ∈ S, P i⌝ ∗ R) := by
  induction S using Finset.induction_on with
  | empty =>
    iintro ⟨-, HR⟩
    isplitr; · ipureintro; exact fun i hi => absurd hi (Finset.notMem_empty i)
    iexact HR
  | insert i S hi ih =>
    rw [show bigSep (insert i S) Φ = iprop(Φ i ∗ bigSep S Φ) from bigSep_insert hi]
    iintro ⟨⟨Hi, HS⟩, HR⟩
    ihave Hr := (h i) $$ [Hi HR]
    · isplitl [Hi] <;> iassumption
    icases Hr with ⟨%hPi, HR⟩
    ihave Hr := ih $$ [HS HR]
    · isplitl [HS] <;> iassumption
    icases Hr with ⟨%hPS, HR⟩
    isplitr
    · ipureintro
      intro j hj
      rcases Finset.mem_insert.mp hj with rfl | hj
      · exact hPi
      · exact hPS j hj
    iexact HR

theorem final_read (c : Dev nD) (s' : Phys nD τ sig (Elt F)) : iprop(left m c ∗ SI s') ⊢ iprop(⌜Final m c s'.mem⌝ ∗ SI s') := by
  unfold left
  iintro ⟨⟨⟨Ha, Hw⟩, Hl⟩, HSI⟩
  ihave Hr := (reads Finset.univ (landed m c) _ (SI s') fun k => landed_read m c k s') $$ [Hl HSI]
  · isplitl [Hl] <;> iassumption
  icases Hr with ⟨%hl, HSI⟩
  icombine HSI Ha gives %ha
  icombine HSI Hw gives %hw
  isplitr
  · ipureintro
    exact ⟨⟨Buf.eq_of_forall_mem_univ ha, Buf.eq_of_forall_mem_univ hw⟩, fun k => hl k (Finset.mem_univ k)⟩
  · iexact HSI

/-- From any memory with every counter at zero, every execution of the eight devices ends with the arguments unchanged, the
    tiles in place in every result, and every counter at zero. -/
theorem run_main : θ_run defs (onTc (τ := τ) (main (F := F))) ⟨m, fun _ => 0, ρ⟩ (fun r => (∀ c, Final m c r.2) ∧ r.2.sem = fun _ => 0) :=
  launch m ρ (dats m) (body_obligation m) (fun d => owed d 0) (fun _ => rfl) (fun _ => rfl)
    (fun c => Pipeline.cellsWaits_intro cfgs (dats m) () 0 c fun w _ _ => w.elim0)
    (G m) (G' m) u₀ (fund m) (glob m) (left m) (fun _ => BI.Entails.refl _) (fun _ => BI.Entails.refl _) (Final m) (final_read m)

end Cert.Proof

end
-- ==== Proof.Silu.lean ====
module

public import proofs.«01_k».proof.Proof.Sched
public import Idealize.ShloMosaic.Lib.MatmulPlain
public import Idealize.ShloMosaic.Lib.StackMember
public import Idealize.ShloMosaic.PureOps.Ideal.Laws

/-!
The mathematics of one tile, at the ideal values: a sum over 8192 positions is the sum of its four quarters; a number
times its logistic is the quotient the reference writes; a tile's element is that quotient of one dot product of a row
with a column.
-/

@[expose] public section

noncomputable section

namespace Cert.Proof

open Cert.KernelIdeal Cert.KernelIdeal.Gen
open Idealize.ShloMosaic Idealize.ShloMosaic.TcCoe Idealize.ShloMosaic.ValueIdx
open scoped BigOperators

/-! ## Sums and the activation -/

/-- Position `j` of quarter `q` of 8192 positions. -/
def quarterAt (q : Fin 4) (j : Fin 2048) : Fin 8192 := ⟨2048 * q.val + j.val, by have := q.isLt; have := j.isLt; omega⟩

/-- A sum over 8192 positions is the sum of its four quarters, added from the left. -/
theorem sum_quarters (f : Fin 8192 → EReal) :
    ∑ k, f k = ((∑ j, f (quarterAt 0 j) + ∑ j, f (quarterAt 1 j)) + ∑ j, f (quarterAt 2 j)) + ∑ j, f (quarterAt 3 j) := by
  rw [← Fin.sum_univ_four fun q => ∑ j, f (quarterAt q j), ← Fintype.sum_prod_type' fun q j => f (quarterAt q j)]
  refine (Fintype.sum_equiv (finProdFinEquiv (m := 4) (n := 2048)) _ f fun p => congrArg f (Fin.ext ?_)).symm
  show 2048 * p.1.val + p.2.val = p.2.val + 2048 * p.1.val
  omega

/-- The activation, as the reference writes it: `y` over one plus the exponential of `-y`. -/
def silu (y : EReal) : EReal := Ideal.div y (1 + Ideal.exp (-y))

/-- The exponential is nowhere negative, so the quotient's divisor is not zero. -/
theorem one_add_exp_ne_zero (y : EReal) : 1 + Ideal.exp y ≠ 0 := by
  have h : (0 : EReal) ≤ Ideal.exp y := by
    induction y with
    | bot => exact le_of_eq (by simp)
    | coe r => rw [Ideal.exp_coe]; exact_mod_cast (Real.exp_pos r).le
    | top => rw [Ideal.exp_top]; exact le_top
  have h1 : (0 : EReal) < 1 + Ideal.exp y := lt_of_lt_of_le zero_lt_one (le_add_of_nonneg_right h)
  exact h1.ne'

/-- A number times its logistic is its activation, at the infinities too. -/
theorem mul_logistic (y : EReal) : y * Ideal.logistic y = silu y := by
  have h := one_add_exp_ne_zero (-y)
  rw [Ideal.logistic, silu, Ideal.div, Ideal.div, if_neg h, if_neg h, one_mul]

/-! ## A tile's element -/

variable (m : (ℓ : Loc nD τ sig) → Buf (Elt Ideal) ℓ)

/-- Column `j` of the column block a device computes in step `s`. -/
def colAt (c : Dev nD) (s : ℕ) (j : Fin 512) : Fin 4096 :=
  ⟨512 * ((c.val + s + 1) % 8) + j.val, by have := Nat.mod_lt (c.val + s + 1) (show 0 < 8 by decide); have := j.isLt; omega⟩

/-- Column block `q` of a device's rows, at an element; -/
theorem xPart_apply (c : Dev nD) (q : Fin 4) (i : Fin 1024) (k : Fin 2048) :
    xPart m c q (ix2 i k) = m ((c : Thread nD τ).loc main_arg0) (ix2 (n0 := 1024) (n1 := 8192) i (quarterAt q k)) := by
  refine congrArg (m ((c : Thread nD τ).loc main_arg0)) ?_
  funext a
  apply Fin.ext
  match a with
  | ⟨0, _⟩ => show 0 + 1 * i.val = i.val; omega
  | ⟨1, _⟩ => show 2048 * q.val + 1 * k.val = 2048 * q.val + k.val; omega

/-- row block `q` of the right factor's columns for a step, at an element; -/
theorem wPart_apply (c : Dev nD) (s : ℕ) (q : Fin 4) (k : Fin 2048) (j : Fin 512) :
    wPart m c s q (ix2 k j) = m ((c : Thread nD τ).loc main_arg1) (ix2 (n0 := 8192) (n1 := 4096) (quarterAt q k) (colAt c s j)) := by
  refine congrArg (m ((c : Thread nD τ).loc main_arg1)) ?_
  funext a
  apply Fin.ext
  match a with
  | ⟨0, _⟩ => show 2048 * q.val + 1 * k.val = 2048 * q.val + k.val; omega
  | ⟨1, _⟩ => show 512 * ((c.val + s + 1) % 8) + 1 * j.val = 512 * ((c.val + s + 1) % 8) + j.val; omega

/-- A device's two factors, as arrays of extended reals, -/
def lhsOf (c : Dev nD) : S1024x8192.Idx → EReal := m ((c : Thread nD τ).loc main_arg0)
def rhsOf (c : Dev nD) : S8192x4096.Idx → EReal := m ((c : Thread nD τ).loc main_arg1)

/-- and row `i` of the left factor times column `j` of the right. -/
def rowDot (c : Dev nD) (i : Fin 1024) (j : Fin 4096) : EReal := ∑ k : Fin 8192, lhsOf m c (ix2 i k) * rhsOf m c (ix2 k j)

/-- One product of a step, at an element, is a quarter of a dot product; -/
theorem prodPart_apply (c : Dev nD) (s : ℕ) (q : Fin 4) (i : Fin 1024) (j : Fin 512) :
    prodPart m c s q (ix2 i j) = ∑ k : Fin 2048, lhsOf m c (ix2 i (quarterAt q k)) * rhsOf m c (ix2 (quarterAt q k) (colAt c s j)) := by
  refine (Ideal.matmul_plain_apply (M := 1024) (K := 2048) (N := 512) none (xPart m c q) (truncf .bf16 (wPart m c s q) bitsLt_bf16_f32)
    (constant S1024x512 .f32 0x00000000#32) i j).trans ?_
  refine (congrArg (· + _) (Ideal.ofBits_zero_f32)).trans ((zero_add _).trans (Finset.sum_congr rfl fun k _ => ?_))
  exact congrArg₂ (fun u v : EReal => u * v) (xPart_apply m c q i k) (wPart_apply m c s q k j)

/-- their sum is the dot product, -/
theorem total_apply (c : Dev nD) (s : ℕ) (i : Fin 1024) (j : Fin 512) : total m c s (ix2 i j) = rowDot m c i (colAt c s j) := by
  rw [rowDot, sum_quarters, ← prodPart_apply, ← prodPart_apply, ← prodPart_apply, ← prodPart_apply]
  rfl

/-- and the tile is its activation. -/
theorem tile_apply (c : Dev nD) (s : ℕ) (i : Fin 1024) (j : Fin 512) : tile m c s (ix2 i j) = silu (rowDot m c i (colAt c s j)) := by
  rw [← mul_logistic, ← total_apply]
  rfl

end Cert.Proof

end
-- ==== Proof.Result.lean ====
module

public import proofs.«01_k».proof.Proof.Silu
public import proofs.«01_k».proof.Proof.Run
public import proofs.«01_k».proof.Proof.Gen.ReferenceIdeal.Run
public import Idealize.ShloMosaic.Lib.Layout
public import Idealize.ShloMosaic.Lib.IdealHost

/-!
The two programs' results at the ideal values, element by element: the reference's is the activation of a row times a
column; a device's result holds, in every row block, the tile that block's device computed for it; so a device's result is
its column block of the reference's.
-/

@[expose] public section

noncomputable section

namespace Cert.Proof

open Cert.KernelIdeal Cert.KernelIdeal.Gen
open Idealize.ShloMosaic Idealize.ShloMosaic.TcCoe Idealize.ShloMosaic.ValueIdx
open scoped BigOperators

/-! ## The reference -/

/-- The reference's product of the whole factors, -/
def refProd (A : FVec Ideal Cert.ReferenceIdeal.S8192x8192 .f32) (B : FVec Ideal Cert.ReferenceIdeal.S8192x4096 .f32) :
    FVec Ideal Cert.ReferenceIdeal.S8192x4096 .f32 :=
  Host.dotGeneral Cert.ReferenceIdeal.dot_S8192x8192_S8192x4096_S8192x4096_1_0_0_1_n_n none A B

/-- the quotient it takes of that, -/
def refAct (Y : FVec Ideal Cert.ReferenceIdeal.S8192x4096 .f32) : FVec Ideal Cert.ReferenceIdeal.S8192x4096 .bf16 :=
  truncf .bf16 (Host.divf Y (addf
    (broadcastInDim Cert.ReferenceIdeal.S8192x4096 ![] Cert.ReferenceIdeal.Facts₀.bcast_S_S8192x4096 (constant Cert.ReferenceIdeal.S_ .f32 0x3F800000#32))
    (Host.exp (Host.negf Y)))) Cert.ReferenceIdeal.Facts₀.bitsLt_bf16_f32

/-- and its result. -/
def refResult (A : FVec Ideal Cert.ReferenceIdeal.S8192x8192 .f32) (B : FVec Ideal Cert.ReferenceIdeal.S8192x4096 .f32) :
    FVec Ideal Cert.ReferenceIdeal.S8192x4096 .bf16 := refAct (refProd A B)

/-- The product at an element is a row times a column, -/
theorem refProd_apply (A : FVec Ideal Cert.ReferenceIdeal.S8192x8192 .f32) (B : FVec Ideal Cert.ReferenceIdeal.S8192x4096 .f32)
    (r : Fin 8192) (j : Fin 4096) : refProd A B (ix2 r j) = ∑ k : Fin 8192, A (ix2 r k) * B (ix2 k j) :=
  StackMember.dotGeneral_plain_apply (m := 8192) (k := 8192) (n := 4096) none A B r j

/-- the quotient at an element is the activation, -/
theorem refAct_apply (Y : FVec Ideal Cert.ReferenceIdeal.S8192x4096 .f32) (x : Cert.ReferenceIdeal.S8192x4096.Idx) : refAct Y x = silu (Y x) := by
  refine Eq.trans (b := Ideal.div (Y x) (Ideal.ofBits .f32 0x3F800000#32 + Ideal.exp (-(Y x)))) rfl ?_
  rw [Ideal.ofBits_one_f32, silu]

/-- and so the result there. -/
theorem refResult_apply (A : FVec Ideal Cert.ReferenceIdeal.S8192x8192 .f32) (B : FVec Ideal Cert.ReferenceIdeal.S8192x4096 .f32)
    (r : Fin 8192) (j : Fin 4096) : refResult A B (ix2 r j) = silu (refProd A B (ix2 r j)) := refAct_apply _ _

/-! ## A device's result -/

variable (m : (ℓ : Loc nD τ sig) → Buf (Elt Ideal) ℓ)

/-- Row `i` of device `b`'s row block. -/
def rowAt (b : Dev nD) (i : Fin 1024) : Fin 8192 := ⟨1024 * b.val + i.val, by have : b.val < 8 := b.isLt; have := i.isLt; omega⟩

/-- Every row is a row of a row block. -/
theorem exists_rowAt (r : Fin 8192) : ∃ b i, r = rowAt b i := by
  have hr := r.isLt
  exact ⟨⟨r.val / 1024, show r.val / 1024 < 8 by omega⟩, ⟨r.val % 1024, by omega⟩, Fin.ext (by show r.val = 1024 * (r.val / 1024) + r.val % 1024; omega)⟩

/-- Column `j` of device `c`'s column block. -/
def colOf (c : Dev nD) (j : Fin 512) : Fin 4096 := ⟨512 * c.val + j.val, by have : c.val < 8 := c.isLt; have := j.isLt; omega⟩

/-- In the step a device sends to device `c` (or, in its last, keeps its own) the columns are those of device `c`'s block. -/
theorem exists_step (b c : Dev nD) : ∃ k : Fin 8, src c k.val = b ∧ ∀ j, colAt b k.val j = colOf c j := by
  have hk : ∃ k : Fin 8, src c k.val = b ∧ (b.val + k.val + 1) % 8 = c.val := by revert b c; decide
  obtain ⟨k, h1, h2⟩ := hk
  exact ⟨k, h1, fun j => Fin.ext (by show 512 * ((b.val + k.val + 1) % 8) + j.val = 512 * c.val + j.val; rw [h2])⟩

/-- A row block of a device's result, read at an element. -/
theorem oBlk_read_apply (b : Dev nD) (f : (main_v1 : Ref sig .tc).ty.Contents (Elt Ideal)) (i : Fin 1024) (j : Fin 512) :
    (oBlk b).view.read (Elt Ideal) f (ix2 i j) = f (ix2 (n0 := 8192) (n1 := 512) (rowAt b i) j) := by
  refine congrArg f ?_
  funext a
  apply Fin.ext
  match a with
  | ⟨0, _⟩ =>
    show k0_off5 b 0 + 1 * i.val = 1024 * b.val + i.val
    rw [k0_off5_eq]; show 1024 * b.val + 1 * i.val = _; omega
  | ⟨1, _⟩ =>
    show k0_off5 b 1 + 1 * j.val = j.val
    rw [k0_off5_eq]; show 0 + 1 * j.val = _; omega

/-- Device `c`'s result at an element: the activation of that row, which its device holds, times the column. -/
theorem final_apply (c : Dev nD) (s : MemSt nD τ sig (Elt Ideal)) (h : Final m c s) (b : Dev nD) (i : Fin 1024) (j : Fin 512) :
    s.mem ((c : Thread nD τ).loc main_v1) (ix2 (n0 := 8192) (n1 := 512) (rowAt b i) j) = silu (rowDot m b i (colOf c j)) := by
  obtain ⟨k, rfl, hj⟩ := exists_step b c
  rw [← hj, ← tile_apply, ← h.2 k]
  exact (oBlk_read_apply _ _ i j).symm

/-! ## The equation -/

/-- Where every device's left factor is its row block of `A` and its right factor is `B`, a device's row times a column is
    that row of `A` times the column of `B`. -/
theorem rowDot_eq (A : FVec Ideal Cert.ReferenceIdeal.S8192x8192 .f32) (B : FVec Ideal Cert.ReferenceIdeal.S8192x4096 .f32) (b : Dev nD)
    (hA : m ((b : Thread nD τ).loc main_arg0) = Layout.block ⟨2, ![1024, 8192]⟩ ⟨2, ![8192, 8192]⟩ 0 8 b A)
    (hB : m ((b : Thread nD τ).loc main_arg1) = B) (i : Fin 1024) (j : Fin 4096) :
    rowDot m b i j = refProd A B (ix2 (rowAt b i) j) := by
  rw [refProd_apply, rowDot]
  refine Finset.sum_congr rfl fun k _ => congrArg₂ (fun u v : EReal => u * v) ?_ (congrFun hB _)
  refine (congrFun hA _).trans (congrArg A ?_)
  funext a
  apply Fin.ext
  match a with
  | ⟨0, _⟩ => show b.val * 1024 + i.val = 1024 * b.val + i.val; omega
  | ⟨1, _⟩ => rfl

/-- Device `c`'s result is column block `c` of the reference's. -/
theorem final_eq (A : FVec Ideal Cert.ReferenceIdeal.S8192x8192 .f32) (B : FVec Ideal Cert.ReferenceIdeal.S8192x4096 .f32)
    (hA : ∀ b : Dev nD, m ((b : Thread nD τ).loc main_arg0) = Layout.block ⟨2, ![1024, 8192]⟩ ⟨2, ![8192, 8192]⟩ 0 8 b A)
    (hB : ∀ b : Dev nD, m ((b : Thread nD τ).loc main_arg1) = B) (c : Dev nD) (s : MemSt nD τ sig (Elt Ideal)) (h : Final m c s) :
    s.mem ((c : Thread nD τ).loc main_v1) = Layout.block ⟨2, ![8192, 512]⟩ ⟨2, ![8192, 4096]⟩ 1 8 c (refResult A B) := by
  funext y
  obtain ⟨r, j, rfl⟩ : ∃ (r : Fin 8192) (j : Fin 512), y = ix2 r j := ⟨y 0, y 1, eq_ix2 (n0 := 8192) (n1 := 512) y⟩
  obtain ⟨b, i, rfl⟩ := exists_rowAt r
  rw [final_apply m c s h b i j, rowDot_eq m A B b (hA b) (hB b), ← refResult_apply, Layout.block_apply]
  refine congrArg (refResult A B) ?_
  funext a
  apply Fin.ext
  match a with
  | ⟨0, _⟩ => rfl
  | ⟨1, _⟩ => show 512 * c.val + j.val = c.val * 512 + j.val; omega

end Cert.Proof

end
-- ==== Proof.Bound.lean ====
module

public import proofs.«01_k».proof.Proof.Result
public import proofs.«01_k».proof.Defs
public import proofs.«01_k».proof.Proof.Gen.BoundedIdeal.Run
public import Idealize.ShloMosaic.Lib.ReduceAll

/-!
The reference with the bound of 60 on the exponent: where no entry of the product is beyond the bound, its result is the
result of the reference without one. The bound is read off the claim's precondition, device by device.
-/

@[expose] public section

noncomputable section

namespace Cert.Proof

open Cert.KernelIdeal Cert.KernelIdeal.Gen
open Idealize.ShloMosaic Idealize.ShloMosaic.TcCoe Idealize.ShloMosaic.ValueIdx
open scoped BigOperators

/-! ## The precondition -/

/-- What the predicate states of its shapes. -/
instance preFacts : Cert.Pre_within_bound_KernelIdeal.Facts where
  bcast_S_S1024x4096 := by decide
  reducesTo_S1024x4096_S_d0_1 := by decide
  h_S_ := by decide
  dot_S1024x8192_S8192x4096_S1024x4096_1_0_0_1_n_n_wf := by decide

/-- The same over the whole arrays. -/
instance preFactsWhole : Cert.Pre_within_bound_BoundedIdeal.Facts where
  bcast_S_S8192x4096 := by decide
  reducesTo_S8192x4096_S_d0_1 := by decide
  h_S_ := by decide
  dot_S8192x8192_S8192x4096_S8192x4096_1_0_0_1_n_n_wf := by decide

/-- The bound, as the float word that both programs write, -/
def bound : EReal := Ideal.ofBits .f32 0x42700000#32

/-- and the word of its negative. -/
theorem ofBits_neg_bound : Ideal.ofBits .f32 0xC2700000#32 = -bound := by
  have h1 : Ideal.ofBits .f32 0xC2700000#32 = ((-60 : ℝ) : EReal) := by
    simp [Ideal.ofBits, Ideal.ieee, -EReal.coe_mul, -EReal.coe_neg]; norm_num
  have h2 : bound = ((60 : ℝ) : EReal) := by
    simp [bound, Ideal.ofBits, Ideal.ieee, -EReal.coe_mul]; norm_num
  rw [h1, h2, EReal.coe_neg]

/-- A comparison that came out one holds. -/
theorem le_of_cmp {x y : EReal} (h : Ideal.cmp .ole x y = 1#1) : x ≤ y := by
  by_contra hn
  rw [Ideal.cmp, decide_eq_false hn] at h
  exact absurd h (by decide)

/-- An entry that passes the predicate's comparison is not beyond the bound, on either side. -/
theorem pre_entry (Y : FVec Ideal Cert.Pre_within_bound_KernelIdeal.S1024x4096 .f32) (x : Cert.Pre_within_bound_KernelIdeal.S1024x4096.Idx)
    (h : cmpf .ole (Host.absf Y) (broadcastInDim Cert.Pre_within_bound_KernelIdeal.S1024x4096 ![]
      Cert.Pre_within_bound_KernelIdeal.Facts.bcast_S_S1024x4096 (constant Cert.Pre_within_bound_KernelIdeal.S_ .f32 0x42700000#32)) x = 1#1) :
    max (Y x) (-(Y x)) ≤ bound := by
  have h' : Ideal.cmp .ole (max (Y x) (-(Y x))) bound = 1#1 := h
  exact le_of_cmp h'

variable (m : (ℓ : Loc nD τ sig) → Buf (Elt Ideal) ℓ)

/-- Under the precondition no entry of a device's rows times the right factor is beyond the bound, on either side. -/
theorem rowDot_bounded (h : Cert.Pre_KernelIdeal_within_bound_KernelIdeal m) (c : Dev nD) (i : Fin 1024) (j : Fin 4096) :
    max (rowDot m c i j) (-(rowDot m c i j)) ≤ bound := by
  have e := congrFun (h c) (Shape.Idx.first Cert.Pre_within_bound_KernelIdeal.Facts.h_S_)
  haveI : Subsingleton Cert.Pre_within_bound_KernelIdeal.S_.Idx := ⟨fun x y => funext fun a => a.elim0⟩
  have e' := Host.reduce_andi_all _ _ _ _ _ e (ix2 (n0 := 1024) (n1 := 4096) i j)
  have hd : rowDot m c i j = _ :=
    (StackMember.dotGeneral_plain_apply (m := 1024) (k := 8192) (n := 4096) (φ₁ := .f32) (φ₂ := .f32) none (lhsOf m c) (rhsOf m c) i j).symm
  rw [hd]
  exact pre_entry _ _ e'

/-! ## The bounded reference -/

/-- What the bounded reference does with the product. -/
def boundedAct (Y : FVec Ideal Cert.BoundedIdeal.S8192x4096 .f32) : FVec Ideal Cert.BoundedIdeal.S8192x4096 .bf16 :=
  truncf .bf16 (Host.divf Y (addf
    (broadcastInDim Cert.BoundedIdeal.S8192x4096 ![] Cert.BoundedIdeal.Facts₀.bcast_S_S8192x4096 (constant Cert.BoundedIdeal.S_ .f32 0x3F800000#32))
    (Host.exp (Host.negf (minimumf
      (broadcastInDim Cert.BoundedIdeal.S8192x4096 ![] Cert.BoundedIdeal.Facts₀.bcast_S_S8192x4096 (id (constant Cert.BoundedIdeal.S_ .f32 0x42700000#32)))
      (maximumf
        (broadcastInDim Cert.BoundedIdeal.S8192x4096 ![] Cert.BoundedIdeal.Facts₀.bcast_S_S8192x4096 (id (constant Cert.BoundedIdeal.S_ .f32 0xC2700000#32)))
        Y)))))) Cert.BoundedIdeal.Facts₀.bitsLt_bf16_f32

/-- At an entry within the bound that is the activation. -/
theorem boundedAct_apply (Y : FVec Ideal Cert.BoundedIdeal.S8192x4096 .f32) (x : Cert.BoundedIdeal.S8192x4096.Idx)
    (h : max (Y x) (-(Y x)) ≤ bound) : boundedAct Y x = silu (Y x) := by
  refine Eq.trans (b := Ideal.div (Y x) (Ideal.ofBits .f32 0x3F800000#32
    + Ideal.exp (-(min bound (max (Ideal.ofBits .f32 0xC2700000#32) (Y x)))))) rfl ?_
  have h1 : Y x ≤ bound := le_trans (le_max_left _ _) h
  have h2 : -bound ≤ Y x := EReal.neg_le.mp (le_trans (le_max_right _ _) h)
  rw [Ideal.ofBits_one_f32, ofBits_neg_bound, max_eq_right h2, min_eq_right h1, silu]

/-- So where the devices' factors are parts of `A` and `B`, and none of their products' entries is beyond the bound, the two
    references have one result. -/
theorem boundedAct_eq (A : FVec Ideal Cert.ReferenceIdeal.S8192x8192 .f32) (B : FVec Ideal Cert.ReferenceIdeal.S8192x4096 .f32)
    (hA : ∀ b : Dev nD, m ((b : Thread nD τ).loc main_arg0) = Layout.block ⟨2, ![1024, 8192]⟩ ⟨2, ![8192, 8192]⟩ 0 8 b A)
    (hB : ∀ b : Dev nD, m ((b : Thread nD τ).loc main_arg1) = B) (h : Cert.Pre_KernelIdeal_within_bound_KernelIdeal m) :
    boundedAct (refProd A B) = refResult A B := by
  funext y
  obtain ⟨r, j, rfl⟩ : ∃ (r : Fin 8192) (j : Fin 4096), y = ix2 r j := ⟨y 0, y 1, eq_ix2 (n0 := 8192) (n1 := 4096) y⟩
  obtain ⟨b, i, rfl⟩ := exists_rowAt r
  rw [refResult_apply]
  refine boundedAct_apply _ _ ?_
  rw [← rowDot_eq m A B b (hA b) (hB b)]
  exact rowDot_bounded m h b i j

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.BoundedIdeal.Run
public import proofs.«01_k».proof.Proof.Run
public import proofs.«01_k».proof.Proof.Result
public import proofs.«01_k».proof.Proof.Bound
public import Idealize.ShloMosaic.Adequacy
public import Idealize.ShloMosaic.Init

@[expose] public section

noncomputable section

namespace Cert.Proof

open Idealize.ShloMosaic Idealize.SL.Sem Cert.Kernel

/-- The kernel runs, leaves its arguments as they were and its counters at zero, on floats; -/
theorem frame_kernel : Cert.quiescent_Kernel := fun m g _ =>
  (θ_run Cert.KernelIdeal.defs _ _).mono (fun _ h => ⟨fun c => (h.1 c).1, h.2⟩) (run_main (F := Bits) m g)

/-- and at the ideal values. -/
theorem frame_kernelIdeal : Cert.quiescent_KernelIdeal := fun m g _ =>
  (θ_run Cert.KernelIdeal.defs _ _).mono (fun _ h => ⟨fun c => (h.1 c).1, h.2⟩) (run_main (F := Ideal) m g)

/-- The reference does so too. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- and so does the bounded one. -/
theorem frame_boundedIdeal : Cert.quiescent_BoundedIdeal := fun m g _ =>
  (θ_run Cert.BoundedIdeal.defs _ _).mono (fun r h => ⟨fun c => (h c).2, sem_eq_zero_of_no_sems (by decide) r.2⟩)
    (Cert.BoundedIdeal.Value.run (F := Ideal) m g)

/-- Every device's result is its column block of the reference's. -/
theorem algebraic : Cert.algebraic_KernelIdeal_ReferenceIdeal := fun m g m' g' _ hm =>
  ⟨refResult (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨final_eq m _ _ (fun b => (hm b).1) (fun b => (hm b).2) c r.2 (h.1 c), (h.1 c).1⟩) (run_main (F := Ideal) m g),
    (θ_run Cert.ReferenceIdeal.defs _ _).mono (fun _ h => h 0) (Cert.ReferenceIdeal.Value.run (F := Ideal) m' g')⟩

/-- Where no entry of the product is beyond the bound, it is its column block of the bounded reference's. -/
theorem algebraic_bounded : Cert.algebraic_KernelIdeal_BoundedIdeal_pre_within_bound_KernelIdeal := fun m g m' g' hp hm =>
  ⟨boundedAct (refProd (m' (((0 : Dev Cert.BoundedIdeal.nD).tc : Thread Cert.BoundedIdeal.nD Cert.BoundedIdeal.τ).loc Cert.BoundedIdeal.main_arg0))
      (m' (((0 : Dev Cert.BoundedIdeal.nD).tc : Thread Cert.BoundedIdeal.nD Cert.BoundedIdeal.τ).loc Cert.BoundedIdeal.main_arg1))),
    (θ_run Cert.KernelIdeal.defs _ _).mono
      (fun r h c => ⟨by
        rw [boundedAct_eq m _ _ (fun b => (hm b).1) (fun b => (hm b).2) hp]
        exact final_eq m _ _ (fun b => (hm b).1) (fun b => (hm b).2) c r.2 (h.1 c), (h.1 c).1⟩) (run_main (F := Ideal) m g),
    (θ_run Cert.BoundedIdeal.defs _ _).mono (fun _ h => h 0) (Cert.BoundedIdeal.Value.run (F := Ideal) m' g')⟩

theorem claim : Cert.Claim := ⟨Cert.Kernel.Gen.facts, Cert.KernelIdeal.Gen.facts, Cert.ReferenceIdeal.Gen.facts, Cert.BoundedIdeal.Gen.facts,
  preFacts, preFactsWhole,
  frame_kernel, frame_kernelIdeal, fun m g _ => frame_kernelIdeal m g trivial, frame_referenceIdeal, frame_boundedIdeal,
  fun m g _ => frame_boundedIdeal m g trivial, trivial, algebraic, algebraic_bounded⟩

end Cert.Proof

end
